-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S8192x1024 : Shape := ⟨2, ![8192, 1024]⟩
abbrev S1024x1024 : Shape := ⟨2, ![1024, 1024]⟩
abbrev S_ : Shape := ⟨0, ![]⟩
abbrev S2 : Shape := ⟨1, ![2]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S8192x1024, .bf16⟩
  | .local _ .vmem, ⟨1, _⟩ => ⟨S8192x1024, .bf16⟩
  | .local _ .vmem, ⟨2, _⟩ => ⟨S8192x1024, .bf16⟩
  | .local _ .vmem, ⟨3, _⟩ => ⟨S1024x1024, .f32⟩
  | .local _ .vmem, ⟨4, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c16384_i32 : BitVec 32 := 16384#32
  let v24 : BitVec 32 := Scalar.muli v5 c16384_i32
  let c0_i32_15 : BitVec 32 := 0#32
  ![v24.toNat, 0]
def k0_off2 (d0 : Dev nD) (c0_i32_16 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v26 : BitVec 32 := Scalar.muli v8 c8192_i32
  let v27 : BitVec 32 := Scalar.addi v26 c0_i32_16
  let c0_i32_17 : BitVec 32 := 0#32
  ![v27.toNat, 0]
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v91 : BitVec 32 := Scalar.muli v2 c4_i32_59
  let v92 : BitVec 32 := Scalar.addi c0_i32_60 v91
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_61 : BitVec 32 := 2#32
  let v93 : BitVec 32 := Scalar.muli v9 c2_i32_61
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v95 : BitVec 32 := Scalar.muli v8 c1_i32_62
  let v96 : BitVec 32 := Scalar.addi v94 v95
  v96.toNat
def k0_dev4 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v111 : BitVec 32 := Scalar.muli v2 c4_i32_74
  let v112 : BitVec 32 := Scalar.addi c0_i32_75 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v113 : BitVec 32 := Scalar.muli v5 c2_i32_76
  let v114 : BitVec 32 := Scalar.addi v112 v113
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_77 : BitVec 32 := 1#32
  let v115 : BitVec 32 := Scalar.muli v10 c1_i32_77
  let v116 : BitVec 32 := Scalar.addi v114 v115
  v116.toNat
def k0_off3 (d0 : Dev nD) (c0_i32_87 : BitVec 32) : Fin 2 → Nat :=
  let c1_i32_78 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_78 v5
  let c16384_i32_79 : BitVec 32 := 16384#32
  let v122 : BitVec 32 := Scalar.muli v121 c16384_i32_79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32_80 : BitVec 32 := 8192#32
  let v123 : BitVec 32 := Scalar.muli v8 c8192_i32_80
  let v124 : BitVec 32 := Scalar.addi v122 v123
  let v133 : BitVec 32 := Scalar.addi v124 c0_i32_87
  let c0_i32_88 : BitVec 32 := 0#32
  ![v133.toNat, 0]
def k0_off4 (d0 : Dev nD) (c0_i32_152 : BitVec 32) : Fin 2 → Nat :=
  let c1_i32_78 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v121 : BitVec 32 := Scalar.subi c1_i32_78 v5
  let c16384_i32_79 : BitVec 32 := 16384#32
  let v122 : BitVec 32 := Scalar.muli v121 c16384_i32_79
  let c1_i32_81 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v125 : BitVec 32 := Scalar.subi c1_i32_81 v8
  let c8192_i32_82 : BitVec 32 := 8192#32
  let v126 : BitVec 32 := Scalar.muli v125 c8192_i32_82
  let v127 : BitVec 32 := Scalar.addi v122 v126
  let v207 : BitVec 32 := Scalar.addi v127 c0_i32_152
  let c0_i32_153 : BitVec 32 := 0#32
  ![v207.toNat, 0]
def k0_dev5 (d0 : Dev nD) : Nat :=
  let c0_i32_207_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_206_r0 : BitVec 32 := 4#32
  let v268_r0 : BitVec 32 := Scalar.muli v2 c4_i32_206_r0
  let v269_r0 : BitVec 32 := Scalar.addi c0_i32_207_r0 v268_r0
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_208_r0 : BitVec 32 := 2#32
  let v270_r0 : BitVec 32 := Scalar.muli v9 c2_i32_208_r0
  let v271_r0 : BitVec 32 := Scalar.addi v269_r0 v270_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209_r0 : BitVec 32 := 1#32
  let v272_r0 : BitVec 32 := Scalar.muli v8 c1_i32_209_r0
  let v273_r0 : BitVec 32 := Scalar.addi v271_r0 v272_r0
  v273_r0.toNat
def k0_dev6 (d0 : Dev nD) : Nat :=
  let c0_i32_212_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211_r0 : BitVec 32 := 4#32
  let v274_r0 : BitVec 32 := Scalar.muli v2 c4_i32_211_r0
  let v275_r0 : BitVec 32 := Scalar.addi c0_i32_212_r0 v274_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213_r0 : BitVec 32 := 2#32
  let v276_r0 : BitVec 32 := Scalar.muli v5 c2_i32_213_r0
  let v277_r0 : BitVec 32 := Scalar.addi v275_r0 v276_r0
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_214_r0 : BitVec 32 := 1#32
  let v278_r0 : BitVec 32 := Scalar.muli v10 c1_i32_214_r0
  let v279_r0 : BitVec 32 := Scalar.addi v277_r0 v278_r0
  v279_r0.toNat
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.ProtocolIdeal.lean ====
/-
# The exchange protocol of the two-hop all-gather along `y`, over the rounds library

Device `c` sits at `(x, y, z) = (c / 4, c / 2 % 2, c % 2)`. It touches two other devices: `yn c`, its partner across
`y`, and `zn c`, its partner across `z`. Both maps are their own inverses. Each device has six cells in play, one
round each (`csem` numbers them):

  0  the runtime's barrier semaphore: two units. `yn c` pays one and hands over its buffer for the first hop;
     `zn c` pays the other and hands over its buffer for the second hop.
  1  the first send: the whole narrowed half block back after the first hop has been read.
  2  the first receive: `yn c`'s narrowed half block, in `c`'s own first landing buffer.
  3  the second send: the lent half share of the first landing buffer back.
  4  the second receive: what `zn c` had received in its first hop, in `c`'s own second landing buffer.
  5  the closing barrier: two units, one from each partner, nothing handed over.

Every transfer's contents are functions of the arguments at launch: `narrowed c` is device `c`'s `z` half of its
block, narrowed to bf16; cell 2 of `c` receives `narrowed (yn c)` and cell 4 receives `narrowed (yn (zn c))`.

The payments of a device are numbered backwards (`partner`, `payKind`), so that what is still owed after all but the last
`n` payments is the sum of the first `n` terms (`owed c n`), and each payment peels the last term.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline library's copy, the exchange's rounds, the local copies' counters -/

abbrev UB : Type := URounds (GSem nD τ sig) Bool
abbrev UU : Type := UR sig nD τ × (UB × Counters)

local notation "𝕄" => MT nD τ sig Unit (Elt F) ℕ UU ℕ

/-- The pipeline library's component. -/
abbrev EP : Emb (UR sig nD τ) (MT nD τ sig Unit (Elt F) ℕ UU ℕ) := embL
/-- The exchange's component. -/
abbrev ER : Emb UB (MT nD τ sig Unit (Elt F) ℕ UU ℕ) := (Emb.inl : Emb UB (UB × Counters)).trans embR
/-- The local copies' component. -/
abbrev EC : UEmb Counters (MT nD τ sig Unit (Elt F) ℕ UU ℕ) := countersEmb

/-- No recursion variants are in play. -/
abbrev 𝒱₀ : Variants := Variants.none

variable (m : (ℓ : Loc nD τ sig) → Buf (Elt F) ℓ)

/-! ## Partners -/

set_option backward.proofsInPublic true in
/-- The partner across `y`. -/
def yn (c : Dev nD) : Dev nD := ⟨(4 * (c.val / 4) + c.val % 2 + 2) - 2 * ((c.val / 2) % 2), by
  have : c.val < 8 := c.isLt
  show _ < 8; omega⟩
set_option backward.proofsInPublic true in
/-- The partner across `z`. -/
def zn (c : Dev nD) : Dev nD := ⟨(4 * (c.val / 4) + 2 * ((c.val / 2) % 2) + 1) - c.val % 2, by
  have : c.val < 8 := c.isLt
  show _ < 8; omega⟩

theorem yn_yn (c : Dev nD) : yn (yn c) = c := by revert c; decide
theorem zn_zn (c : Dev nD) : zn (zn c) = c := by revert c; decide

theorem dev1_eq (c : Dev nD) : (⟨k0_dev1 c, k0_dev1_lt c⟩ : Dev nD) = yn c := Fin.ext (k0_dev1_eq c)
theorem dev2_eq (c : Dev nD) : (⟨k0_dev2 c, k0_dev2_lt c⟩ : Dev nD) = zn c := Fin.ext (k0_dev2_eq c)
theorem dev3_eq (c : Dev nD) : (⟨k0_dev3 c, k0_dev3_lt c⟩ : Dev nD) = yn c := Fin.ext (k0_dev3_eq c)
theorem dev4_eq (c : Dev nD) : (⟨k0_dev4 c, k0_dev4_lt c⟩ : Dev nD) = zn c := Fin.ext (k0_dev4_eq c)
theorem dev5_eq (c : Dev nD) : (⟨k0_dev5 c, k0_dev5_lt c⟩ : Dev nD) = yn c := Fin.ext (k0_dev5_eq c)
theorem dev6_eq (c : Dev nD) : (⟨k0_dev6 c, k0_dev6_lt c⟩ : Dev nD) = zn c := Fin.ext (k0_dev6_eq c)

/-- A device's place on the `y` and on the `z` axis. -/
abbrev yOf (c : Dev nD) : ℕ := c.val / 2 % 2
abbrev zOf (c : Dev nD) : ℕ := c.val % 2

theorem yOf_yn (c : Dev nD) : yOf (yn c) = 1 - yOf c := by revert c; decide
theorem zOf_yn (c : Dev nD) : zOf (yn c) = zOf c := by revert c; decide
theorem yOf_zn (c : Dev nD) : yOf (zn c) = yOf c := by revert c; decide
theorem zOf_zn (c : Dev nD) : zOf (zn c) = 1 - zOf c := by revert c; decide

/-- Each partner map as a permutation of the devices. -/
def ynE : Dev nD ≃ Dev nD := ⟨yn, yn, yn_yn, yn_yn⟩
def znE : Dev nD ≃ Dev nD := ⟨zn, zn, zn_zn, zn_zn⟩

/-! ## Cells -/

/-- The runtime's barrier semaphore and the closing one. -/
abbrev barS : Sem sig := (SemArray.scalar (sig.barrier 0 rfl) : Sems sig S_).sem
abbrev exitS : Sem sig := (cc0_scoped0 : Sems sig S_).sem
/-- The local copies' semaphores: into the staging tile, out of it, and the own block's. -/
abbrev inS : DmaSem sig := (cc0_scratch5 : DmaSems sig S_).sem
abbrev outS : DmaSem sig := (cc0_scratch6 : DmaSems sig S_).sem
abbrev ownS : DmaSem sig := (cc0_scratch7 : DmaSems sig S_).sem
/-- The two hops' send and receive semaphores. -/
abbrev send0S : DmaSem sig := ((cc0_scratch8.slice (Rect.unit (s := S2) ![0] S1.size inb_S2_S1_0)).squeeze S_ squeezes_S1_S_).sem
abbrev send1S : DmaSem sig := ((cc0_scratch8.slice (Rect.unit (s := S2) ![1] S1.size inb_S2_S1_1)).squeeze S_ squeezes_S1_S_).sem
abbrev recv0S : DmaSem sig := ((cc0_scratch9.slice (Rect.unit (s := S2) ![0] S1.size inb_S2_S1_0)).squeeze S_ squeezes_S1_S_).sem
abbrev recv1S : DmaSem sig := ((cc0_scratch9.slice (Rect.unit (s := S2) ![1] S1.size inb_S2_S1_1)).squeeze S_ squeezes_S1_S_).sem

/-- The six cells of the exchange, numbered. -/
abbrev csem : Fin 6 → SemLoc sig := fun
  | 0 => .reg barS | 1 => .dma send0S | 2 => .dma recv0S | 3 => .dma send1S | 4 => .dma recv1S | 5 => .reg exitS
abbrev cell (c : Dev nD) (k : Fin 6) : GSem nD τ sig := ((c : Thread nD τ), csem k)

/-- The number of a cell, for a semaphore that has one. -/
def kindOf (sm : SemLoc sig) : Option (Fin 6) := (List.finRange 6).find? fun k => csem k = sm

theorem kindOf_csem (k : Fin 6) : kindOf (csem k) = some k := by revert k; decide
theorem csem_injective : Function.Injective csem := fun k k' h => by
  have := congrArg kindOf h
  rw [kindOf_csem, kindOf_csem] at this
  exact Option.some.inj this
theorem cell_inj {c c' : Dev nD} {k k' : Fin 6} : Iff (cell c k = cell c' k') (c = c' ∧ k = k') :=
  ⟨fun h => ⟨congrArg (fun g : GSem nD τ sig => g.1.1) h, csem_injective (congrArg Prod.snd h)⟩, fun h => h.1 ▸ h.2 ▸ rfl⟩

/-! ## Buffers -/

abbrev xM : Memref sig .tc .hbm S16384x1024 .f32 := Memref.whole main_arg0
abbrev oM : Memref sig .tc .hbm S32768x1024 .f32 := Memref.whole main_v1
abbrev sM : Memref sig .tc .vmem S8192x1024 .bf16 := Memref.whole cc0_scratch0
abbrev r0M : Memref sig .tc .vmem S8192x1024 .bf16 := Memref.whole cc0_scratch1
abbrev r1M : Memref sig .tc .vmem S8192x1024 .bf16 := Memref.whole cc0_scratch2
abbrev tM : Memref sig .tc .vmem S1024x1024 .f32 := Memref.whole cc0_scratch3

/-- The credit of one whole hop. -/
abbrev N : ℕ := r0M.view.dmaCredit
theorem N_pos : 0 < N := View.dmaCredit_pos _ (by decide)

/-! ## Contents -/

/-- Device `c`'s block at launch. -/
abbrev xs (c : Dev nD) : Buf (Elt F) ((c : Thread nD τ).loc main_arg0) := m ((c : Thread nD τ).loc main_arg0)

/-- The rows of a block that a device at `z` narrows and sends: the `z`-th half. -/
abbrev halfRect (z : Fin 2) : Rect S16384x1024 :=
  Rect.unit (s := S16384x1024) ![8192 * z.val, 0] S8192x1024.size (Fin.forall_fin_two.mpr ⟨by
    show 8192 * z.val + 8192 ≤ 16384; omega, by show 0 + 1024 ≤ 1024; omega⟩)

/-- A value of type f32 narrowed to bf16, and one of type bf16 widened to f32. -/
abbrev nar (a : F .f32) : F .bf16 := FloatOps.truncf .bf16 bitsLt_bf16_f32 a
abbrev wid (a : F .bf16) : F .f32 := FloatOps.extf .f32 bitsLt_bf16_f32 a

/-- What device `c` sends in the first hop: its half of its block, narrowed. -/
def narrowed (c : Dev nD) : Buf (Elt F) ((c : Thread nD τ).loc cc0_scratch0) :=
  fun i : S8192x1024.Idx => nar (xs m c ((halfRect ⟨zOf c, Nat.mod_lt _ (by decide)⟩).emb i))

/-- What lands at device `c` in the first hop and in the second. -/
def hop0 (c : Dev nD) : Buf (Elt F) ((c : Thread nD τ).loc cc0_scratch1) := narrowed m (yn c)
def hop1 (c : Dev nD) : Buf (Elt F) ((c : Thread nD τ).loc cc0_scratch2) := narrowed m (yn (zn c))

/-- The share of the first landing buffer that the second hop reads, and the other. -/
abbrev lent : PosShare TreeShare := fullShare.left
abbrev kept : PosShare TreeShare := fullShare.right

/-! ## The schedule -/

/-- What one payment of cell `k` of device `c` hands to `c`. -/
def kpay (c : Dev nD) (k : Fin 6) (d : Bool) : sProp 𝕄 := match k with
  | 0 => if d then iprop((∃ f, ((zn c : Thread nD τ).loc cc0_scratch2) ↦{fullShare} f) ∗ reached ER (cell (zn c) 4) 0)
      else iprop((∃ f, ((yn c : Thread nD τ).loc cc0_scratch1) ↦{fullShare} f) ∗ reached ER (cell (yn c) 2) 0)
  | 1 => iprop(((c : Thread nD τ).loc cc0_scratch0) ↦{fullShare} narrowed m c)
  | 2 => iprop(((c : Thread nD τ).loc cc0_scratch1) ↦{fullShare} hop0 m c)
  | 3 => iprop(((c : Thread nD τ).loc cc0_scratch1) ↦{lent} hop0 m c)
  | 4 => iprop(((c : Thread nD τ).loc cc0_scratch2) ↦{fullShare} hop1 m c)
  | 5 => iprop(emp)

/-- Whether cell `k` is a barrier's: two payments of one unit each, not one of a hop's credit. -/
abbrev IsBarrier (k : Fin 6) : Prop := k = 0 ∨ k = 5
def kduties (k : Fin 6) : Finset Bool := if IsBarrier k then Finset.univ else {false}
def kamount (k : Fin 6) : ℕ := if IsBarrier k then 1 else N
/-- All of cell `k`'s one round. -/
def ktotal (k : Fin 6) : ℕ := if IsBarrier k then 2 else N

theorem kamount_pos (k : Fin 6) : 0 < kamount k := by
  unfold kamount; split
  · exact Nat.one_pos
  · exact N_pos

/-- The one round of every cell. A barrier's payment `false` is made by the partner across `y`, `true` by the one
    across `z`. -/
def rd : Rounds.Schedule (GSem nD τ sig) Bool 𝕄 where
  duties g r := if r = 0 ∧ g.1.2 = .tc then (kindOf g.2).elim ∅ kduties else ∅
  unitless _ := False
  amount g _ _ := (kindOf g.2).elim 1 kamount
  payload g _ d := (kindOf g.2).elim iprop(emp) fun k => kpay m g.1.1 k d
  amount_pos g _ _ _ := by
    cases kindOf g.2 with
    | none => exact Nat.one_pos
    | some k => exact kamount_pos k

instance kpay_storable (c : Dev nD) (k : Fin 6) (d : Bool) : BI.Storable (upEmb : UEmb _ 𝕄) (kpay (F := F) m c k d) := by
  fin_cases k <;> dsimp only [kpay] <;> (repeat' split) <;> infer_instance
instance rd_payload_storable (g : GSem nD τ sig) (r : ℕ) (d : Bool) : BI.Storable (upEmb : UEmb _ 𝕄) ((rd (F := F) m).payload g r d) := by
  show BI.Storable upEmb ((kindOf g.2).elim iprop(emp) fun k => kpay m g.1.1 k d)
  cases kindOf g.2 with
  | none => dsimp only [Option.elim]; infer_instance
  | some k => dsimp only [Option.elim]; infer_instance

section Sched
variable (c : Dev nD) (k : Fin 6)

theorem duties_cell : (rd (F := F) m).duties (cell c k) 0 = kduties k := by
  dsimp only [rd]; rw [if_pos ⟨rfl, rfl⟩, kindOf_csem]; rfl
theorem duties_later (g : GSem nD τ sig) : ∀ r, 1 ≤ r → (rd (F := F) m).duties g r = ∅ :=
  fun r hr => by dsimp only [rd]; exact if_neg fun h => by omega
theorem amount_cell (d : Bool) : (rd (F := F) m).amount (cell c k) 0 d = kamount k := by
  dsimp only [rd]; rw [kindOf_csem]; rfl
theorem payload_cell (d : Bool) : (rd (F := F) m).payload (cell c k) 0 d = kpay m c k d := by
  dsimp only [rd]; rw [kindOf_csem]; rfl
theorem expect_cell : (rd (F := F) m).expect (cell c k) 0 = ktotal k := by
  unfold Schedule.expect Schedule.amountOf
  rw [duties_cell, Finset.sum_congr rfl fun d _ => amount_cell m c k d, Finset.sum_const]
  unfold kduties kamount ktotal
  split
  · rfl
  · rw [Finset.card_singleton, one_smul]

/-- All that a barrier cell's round hands over: both partners' payments. -/
theorem rest_barrier (hk : IsBarrier k) :
    bigSep ((rd (F := F) m).duties (cell c k) 0 \ ∅) (fun d => (rd (F := F) m).payload (cell c k) 0 d) = iprop(kpay m c k false ∗ kpay m c k true) := by
  rw [Finset.sdiff_empty, duties_cell, kduties, if_pos hk, bigSep_univ_eq_bigSepL [false, true] (by decide) (by decide), bigSepL_cons_cons,
    bigSepL_singleton, payload_cell, payload_cell]
  rfl
/-- All that a hop's cell hands over: its one payment. -/
theorem rest_hop (hk : ¬ IsBarrier k) :
    bigSep ((rd (F := F) m).duties (cell c k) 0 \ ∅) (fun d => (rd (F := F) m).payload (cell c k) 0 d) = kpay m c k false := by
  rw [Finset.sdiff_empty, duties_cell, kduties, if_neg hk, bigSep_singleton, payload_cell]

end Sched

/-! ## What a device owes; levels -/

/-- Which cell a device's `j`-th payment from the END goes to: at even `j` the partner's across `z`, at odd `j` the
    partner's across `y`; the closing barrier last, before it the second hop, the first hop, the opening barrier. -/
def payKind : ℕ → Fin 6
  | 0 | 1 => 5
  | 2 => 4
  | 3 => 2
  | _ => 0
def partner (j : ℕ) (c : Dev nD) : Dev nD := if j % 2 = 0 then zn c else yn c
theorem partner_partner (j : ℕ) (c : Dev nD) : partner j (partner j c) = c := by
  unfold partner; split
  · exact zn_zn c
  · exact yn_yn c

abbrev payTally (c : Dev nD) (j : ℕ) : CellTallies nD τ sig Unit := tallyAt (cell (partner j c) (payKind j)) () (kamount (payKind j))
/-- What device `c` still owes when its last `n` payments are outstanding. -/
def owed (c : Dev nD) (n : ℕ) : CellTallies nD τ sig Unit := ∑ j ∈ Finset.range n, payTally c j
theorem owed_succ (c : Dev nD) (n : ℕ) : owed c (n + 1) = owed c n + payTally c n := Finset.sum_range_succ _ _
theorem owed_zero (c : Dev nD) : owed c 0 = 0 := rfl
/-- What it owes at launch. -/
def O₀ (c : Dev nD) : CellTallies nD τ sig Unit := owed c 6

theorem payTally_apply (c : Dev nD) (j : ℕ) (g : GSem nD τ sig) (u : Unit) :
    payTally c j g u = if g = cell (partner j c) (payKind j) then kamount (payKind j) else 0 := by
  rw [tallyAt_apply]; simp only [and_true]

theorem owed_pos {c : Dev nD} {g : GSem nD τ sig} {u : Unit} : ∀ {n : ℕ}, 0 < owed c n g u → ∃ j < n, g = cell (partner j c) (payKind j)
  | 0, h => absurd h (Nat.lt_irrefl 0)
  | n + 1, h => by
    rw [owed_succ, Pi.add_apply, Finsupp.add_apply, payTally_apply] at h
    by_cases hg : g = cell (partner n c) (payKind n)
    · exact ⟨n, Nat.lt_succ_self n, hg⟩
    · rw [if_neg hg, Nat.add_zero] at h
      obtain ⟨j, hj, e⟩ := owed_pos h
      exact ⟨j, Nat.lt_succ_of_lt hj, e⟩

def L (g : GSem nD τ sig) : Finset Unit := if g.1.2 = .tc then {()} else ∅
/-- Levels: the opening barrier 1, the first hop's arrival 2, the second's 3, the closing barrier 4; all else 0. -/
def klv : Fin 6 → ℕ := fun | 0 => 1 | 1 => 0 | 2 => 2 | 3 => 0 | 4 => 3 | 5 => 4
def smLv (sm : SemLoc sig) : ℕ := (kindOf sm).elim 0 klv
def lv (g : GSem nD τ sig) (_ : Unit) : ℕ := smLv g.2

theorem L_of_ne (g : GSem nD τ sig) (h : g.1.2 ≠ .tc) : L g = ∅ := if_neg h
theorem L_tc (c : Dev nD) (sm : SemLoc sig) : L ((c : Thread nD τ), sm) = {()} := if_pos rfl
theorem smLv_csem (k : Fin 6) : smLv (csem k) = klv k := by unfold smLv; rw [kindOf_csem]; rfl

/-- A device may wait on its own semaphore `sm` while its last `n` payments are outstanding, if each of those goes to a
    cell of a higher level. -/
theorem mayWait (c : Dev nD) (sm : SemLoc sig) (n : ℕ) (h : ∀ j < n, smLv sm < klv (payKind j)) :
    (levAts L lv : sProp 𝕄) ⊢ MayWait (c : Thread nD τ) sm () (owed c n) :=
  MayOwe.of_cut (L := L) (lev := lv) (smLv sm) (fun p hp => by rw [Finset.mem_singleton.mp hp, L_tc]; exact Finset.mem_singleton_self _)
    (fun g u hg => by obtain ⟨j, _, rfl⟩ := owed_pos hg; rw [L_tc]; exact Finset.mem_singleton_self _)
    (fun p hp => by rw [Finset.mem_singleton.mp hp]; exact le_refl (smLv sm))
    (fun g u hg => by
      obtain ⟨j, hj, rfl⟩ := owed_pos hg
      show smLv sm < smLv (csem (payKind j))
      rw [smLv_csem]; exact h j hj)

end Cert.KernelIdeal.Exchange
-- ==== Proof.TilesIdeal.lean ====
/-
# One tile of the narrowing pass, one tile of the widening pass

The kernel's body is, apart from its synchronization, eight copies of one stretch (copy a tile of the block in,
narrow it, store it into the send buffer) and sixteen of another (load a tile of a landing buffer, widen it, store it
into the staging tile, copy it out). Each stretch is proved here once, for any tile and any continuation.
-/
module

public import proofs.«01_k».proof.Proof.ProtocolIdeal
public import Idealize.ShloMosaic.Lib.Pipeline.ValueKit.Geometry

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## Windows of whole buffers -/

/-- What is written through a window of a whole buffer, when it is some contents' own values there: those values
    inside the window, the old ones outside. -/
theorem write_window (b : Ref sig .tc) (r : Rect b.ty.shape) (f g : b.ty.Contents (Elt F)) (w : r.shape.Idx → Elt F b.ty.elt)
    (hw : ∀ x, w x = g (r.emb x)) (i : b.ty.shape.Idx) :
    ((View.whole b).slice r).write (Elt F) f w Finset.univ i = if i ∈ r.set then g i else f i := by
  by_cases hi : i ∈ r.set
  · rw [if_pos hi]
    obtain ⟨x, rfl⟩ := r.exists_idx_of_mem hi
    have h := View.write_emb_of_mem (v := (View.whole b).slice r) (Val := Elt F) f w (Finset.mem_univ x)
    exact h.trans (hw x)
  · rw [if_neg hi]
    exact View.write_of_not_mem (v := (View.whole b).slice r) (Val := Elt F) f w Finset.univ
      (fun h => hi (by rw [show ((View.whole b).slice r).setOn Finset.univ = ((View.whole b).slice r).set from rfl, View.set_slice_whole] at h; exact h))

/-- Rows `lo ≤ r < lo + 1024` of a 1024-column buffer: membership in the window that starts there. -/
theorem mem_rows {n k lo : ℕ} {inb} {i : (⟨2, ![n, 1024]⟩ : Shape).Idx} :
    Iff (i ∈ (Rect.unit (s := ⟨2, ![n, 1024]⟩) ![lo, 0] ![k, 1024] inb).set) (lo ≤ (i 0).val ∧ (i 0).val < lo + k) := by
  rw [Rect.mem_set_unit, Fin.forall_fin_two]
  have h1 : (i 1).val < 1024 := (i 1).isLt
  constructor
  · intro h; exact h.1
  · intro h; exact ⟨h, Nat.zero_le _, by show (i 1).val < 0 + 1024; omega⟩

theorem zero2 : (![0, 0] : Fin 2 → Nat) = fun _ => 0 := funext fun a => by fin_cases a <;> rfl

/-- Two indices of a rank-two shape with equal coordinates are equal. -/
theorem idx_ext {d : Fin 2 → ℕ} {i j : (⟨2, d⟩ : Shape).Idx} (h0 : (i 0).val = (j 0).val) (h1 : (i 1).val = (j 1).val) : i = j :=
  funext (Fin.forall_fin_two.mpr ⟨Fin.ext h0, Fin.ext h1⟩)

/-! ## The narrowing pass -/

/-- What the device owes, whichever waits are recorded. -/
def ow (c : Dev nD) (n : ℕ) : sProp 𝕄 := iprop(∃ W, owes (c : Thread nD τ) (owed c n) W)

/-- The send buffer with its first `n` rows in place. -/
def Sent (c : Dev nD) (n : ℕ) : sProp 𝕄 :=
  iprop(∃ f : Buf (Elt F) ((c : Thread nD τ).loc cc0_scratch0),
    ⌜∀ i : S8192x1024.Idx, (i 0).val < n → f i = narrowed m c i⌝ ∗ (((c : Thread nD τ).loc cc0_scratch0) ↦{fullShare} f))

/-- The staging tile, whatever it holds. -/
def Tile (c : Dev nD) : sProp 𝕄 := iprop(∃ f, ((c : Thread nD τ).loc cc0_scratch3) ↦{fullShare} f)

/-- The half share of the block that the narrowing pass reads. -/
def XRead (c : Dev nD) : sProp 𝕄 := iprop(((c : Thread nD τ).loc main_arg0) ↦{fullShare.right} xs m c)

/-- The window of the whole staging tile. -/
abbrev tileRect : Rect S1024x1024 := Rect.unit (s := S1024x1024) ![0, 0] S1024x1024.size inb_S1024x1024_S1024x1024_0_0

theorem read_tile (f : (cc0_scratch3 : Ref sig .tc).ty.Contents (Elt F)) : tM.view.readAt (Elt F) tileRect.toLoadRect f = f :=
  Memref.readAt_unit_zero (Elt F) cc0_scratch3 zero2 _ f
theorem write_tile (f w : (cc0_scratch3 : Ref sig .tc).ty.Contents (Elt F)) :
    (tM.access tileRect : View sig .tc _ _ _).write (Elt F) f w Finset.univ = w :=
  Memref.write_access_unit_zero_univ (Elt F) cc0_scratch3 zero2 _ f w

/-- The contents a narrowed tile contributes: row `k` of the tile at row `8192 z + lo` of the block is row `lo + k` of
    the send buffer. -/
theorem narrowed_tile (c : Dev nD) (lo : ℕ) (inb) (inb') (x : S1024x1024.Idx) :
    nar (xs m c ((Rect.unit (s := S16384x1024) ![8192 * zOf c + lo, 0] S1024x1024.size inb).emb x))
      = narrowed m c ((Rect.unit (s := S8192x1024) ![lo, 0] S1024x1024.size inb').emb x) := by
  unfold narrowed
  refine congrArg (fun i => nar (xs m c i)) (idx_ext ?_ ?_)
  · rw [ValueKit.rect_emb_unit_val, ValueKit.rect_emb_unit_val, ValueKit.rect_emb_unit_val]
    show 8192 * zOf c + lo + (x 0).val = 8192 * zOf c + (lo + (x 0).val)
    omega
  · rw [ValueKit.rect_emb_unit_val, ValueKit.rect_emb_unit_val, ValueKit.rect_emb_unit_val]
    show 0 + (x 1).val = 0 + (0 + (x 1).val)
    omega

/-- The narrowing pass after `lo` rows, the last `n` payments outstanding. -/
def Narrowing (c : Dev nD) (n lo : ℕ) : sProp 𝕄 :=
  iprop(levAts L lv ∗ XRead m c ∗ Tile c ∗ Sent m c lo ∗ semVal ((c : Thread nD τ), .dma inS) 0 ∗ ow c n)

set_option maxHeartbeats 800000 in
/-- One tile of the narrowing pass: rows `lo … lo + 1023` of the half block, copied in, narrowed and stored into the send
    buffer, the rows below already there. -/
theorem narrow_tile (c : Dev nD) (lo n : ℕ) (hn : ∀ j < n, smLv (.dma inS) < klv (payKind j)) {off : Fin 2 → ℕ} (hoff : off = ![8192 * zOf c + lo, 0])
    {inb : ∀ a, off a + S1024x1024.size a ≤ S16384x1024.size a} {inb' : ∀ a, (![lo, 0] : Fin 2 → ℕ) a + S1024x1024.size a ≤ S8192x1024.size a}
    {pay : Vec F S1024x1024 .f32 → FVec F S1024x1024 .bf16} (hpay : ∀ v i, pay v i = nar (v i))
    {h₁ h₂ h₃ h₄ h₅ h₆ h₇ h₈ h₉ h₁₀ h₁₁}
    {k : PUnit → Prog (TpuEff nD τ sig (Elt F) Λ₀ .tc) PUnit} {Q : PUnit → sProp 𝕄} :
    Narrowing m c n lo
      ⊢ iprop((Narrowing m c n (lo + 1024)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xM.slice (Rect.unit (s := S16384x1024) off S1024x1024.size inb) h₁) (.here tM) (.dma inS) h₂ h₃ h₄) fun _ =>
             .op (.waitDma2 inS (xM.slice (Rect.unit (s := S16384x1024) off S1024x1024.size inb) h₅) tM h₆ h₇) fun _ =>
             .op (.load tM tileRect.toLoadRect h₈) fun v =>
             .op (.load sM (Rect.unit (s := S8192x1024) ![lo, 0] S1024x1024.size inb').toLoadRect h₉) fun _ =>
             .op (.store sM (Rect.unit (s := S8192x1024) ![lo, 0] S1024x1024.size inb') (pay v) Finset.univ h₁₀ h₁₁) k) Q) := by
  subst hoff
  unfold Narrowing XRead Tile Sent ow
  iintro ⟨#Hlev, Hx, ⟨%ft, Ht⟩, ⟨%fs, %hfs, Hs⟩, Hv, ⟨%W, HO⟩⟩ Hk
  ihave Hxx := (pointsTo_split_subset (f := xs m c) (q := fullShare.right)
    (Finset.subset_univ (xM.slice (Rect.unit (s := S16384x1024) ![8192 * zOf c + lo, 0] S1024x1024.size inb) h₁).view.set)).1 $$ Hx
  icases Hxx with ⟨Hxt, Hxr⟩
  iapply (wp_dmaLocal EC 𝒱₀ (c : Thread nD τ) none (dst := tM) (sm := .dma inS) (via := ReadAs.same) (Sd := Finset.univ) () (tM.view.dmaCredit) rfl
    (View.dmaCredit_pos _ (by decide)) (Finset.subset_univ _)) $$ [Hxt Ht Hv]
  · isplitl [Hxt]; · iexact Hxt
    isplitl [Ht]; · iexact Ht
    iexact Hv
  iintro Hfl
  iapply (wp_waitLocalO EC 𝒱₀ (c : Thread nD τ) none (dstw := tM) () rfl (O := owed c n)) $$ [Hfl HO]
  · isplitl [Hfl]; · iexact Hfl
    isplitl [HO]; · iexact HO
    iapply (mayWait c (.dma inS) n hn); iexact Hlev
  iintro ⟨⟨Ht, Hxt⟩, Hv, HO⟩
  iapply (wp_load 𝒱₀ (c : Thread nD τ) none Set.univ (m := tM) (Finset.subset_univ _)) $$ Ht; iintro Ht
  iapply (wp_load 𝒱₀ (c : Thread nD τ) none Set.univ (m := sM) (Finset.subset_univ _)) $$ Hs; iintro Hs
  iapply (wp_store 𝒱₀ (c : Thread nD τ) none Set.univ (m := sM) (r := Rect.unit (s := S8192x1024) ![lo, 0] S1024x1024.size inb') (Mk := Finset.univ) (Finset.subset_univ _)) $$ Hs; iintro Hs
  iapply Hk
  isplitr; · iexact Hlev
  isplitl [Hxt Hxr]
  · iapply (pointsTo_split_subset (f := xs m c) (q := fullShare.right)
      (Finset.subset_univ (xM.slice (Rect.unit (s := S16384x1024) ![8192 * zOf c + lo, 0] S1024x1024.size inb) h₁).view.set)).2
    isplitl [Hxt] <;> iassumption
  isplitl [Ht]; · iexists _; iexact Ht
  isplitl [Hs]
  · iexists _
    isplitr
    rotate_left
    · iexact Hs
    · ipureintro
      intro i hi
      rw [read_tile]
      refine (write_window cc0_scratch0 _ fs (narrowed m c) _ (fun x => ?_) i).trans ?_
      · rw [hpay]
        refine Eq.trans ?_ (narrowed_tile m c lo inb inb' x)
        exact congrArg nar (congrFun (View.write_whole_univ (Val := Elt F) cc0_scratch3 ft _) x)
      · split
        · rfl
        · rename_i h
          refine hfs i ?_
          rw [mem_rows] at h
          omega
  isplitl [Hv]; · iexact Hv
  iexists _; iexact HO

/-- Before the pass, and after it: the send buffer holds what the first hop sends. -/
theorem narrowing_start (c : Dev nD) (n : ℕ) :
    iprop(levAts L lv ∗ (((c : Thread nD τ).loc main_arg0) ↦{fullShare.right} xs m c) ∗ Tile c ∗ (∃ f, ((c : Thread nD τ).loc cc0_scratch0) ↦{fullShare} f)
        ∗ semVal ((c : Thread nD τ), .dma inS) 0 ∗ ow c n) ⊢ Narrowing m c n 0 := by
  unfold Narrowing XRead Sent
  iintro ⟨Hlev, Hx, Ht, ⟨%f, Hs⟩, Hv, HO⟩
  isplitl [Hlev]; · iexact Hlev
  isplitl [Hx]; · iexact Hx
  isplitl [Ht]; · iexact Ht
  isplitl [Hs]
  · iexists f
    isplitr; · ipureintro; exact fun i h => absurd h (Nat.not_lt_zero _)
    iexact Hs
  isplitl [Hv] <;> iassumption
theorem sent_all (c : Dev nD) : Sent m c 8192 ⊢ iprop(((c : Thread nD τ).loc cc0_scratch0) ↦{fullShare} narrowed m c) := by
  unfold Sent
  iintro ⟨%f, %hf, Hs⟩
  obtain rfl : f = narrowed m c := funext fun i : S8192x1024.Idx => hf i (i 0).isLt
  iexact Hs

/-- A narrowing payload as it is printed: the cast, then a reshape to the same shape. -/
theorem nar_pay (v : Vec F S1024x1024 .f32) (h : FTy.bits .bf16 < FTy.bits .f32) (h' : S1024x1024.ShapeCasts S1024x1024) (i : S1024x1024.Idx) :
    shapeCast S1024x1024 (truncf .bf16 v h : FVec F S1024x1024 .bf16) h' i = nar (v i) := by
  rw [shapeCast_self]; rfl
/-- A widening payload as it is printed: the cast, then a reshape to the same shape. -/
theorem wid_pay (v : Vec F S1024x1024 .bf16) (h : FTy.bits .bf16 < FTy.bits .f32) (h' : S1024x1024.ShapeCasts S1024x1024) (i : S1024x1024.Idx) :
    shapeCast S1024x1024 (extf .f32 v h : FVec F S1024x1024 .f32) h' i = wid (v i) := by
  rw [shapeCast_self]; rfl

/-! ## The result -/

/-- An index of a taller buffer of 1024 columns, its row taken modulo `k`. -/
def modRows {n : ℕ} (k : ℕ) (hk : 0 < k) (i : (⟨2, ![n, 1024]⟩ : Shape).Idx) : (⟨2, ![k, 1024]⟩ : Shape).Idx :=
  fun a => ⟨if a = 0 then (i 0).val % k else (i 1).val, by
    have h1 : (i 1).val < 1024 := (i 1).isLt
    have h0 := Nat.mod_lt (i 0).val hk
    fin_cases a
    · exact h0
    · exact h1⟩

/-- What device `c` ends with: its own block as it is; of the other `y` block, the half of its own `z` from the first
    hop and the other half from the second, widened. -/
def gathered (c : Dev nD) : Buf (Elt F) ((c : Thread nD τ).loc main_v1) :=
  fun i : S32768x1024.Idx =>
    if (i 0).val / 16384 = yOf c then xs m c (modRows 16384 (by decide) i)
    else if (i 0).val % 16384 / 8192 = zOf c then wid (hop0 m c (modRows 8192 (by decide) i))
    else wid (hop1 m c (modRows 8192 (by decide) i))

theorem ownRect_inb (c : Dev nD) : ∀ a, (![16384 * yOf c, 0] : Fin 2 → ℕ) a + S16384x1024.size a ≤ S32768x1024.size a :=
  Fin.forall_fin_two.mpr ⟨by
    show 16384 * yOf c + 16384 ≤ 32768
    have : yOf c < 2 := Nat.mod_lt _ (by decide)
    omega, by show 0 + 1024 ≤ 1024; omega⟩
/-- The rows of the device's own `y` block in the result, and all others. -/
abbrev ownRect (c : Dev nD) : Rect S32768x1024 :=
  Rect.unit (s := S32768x1024) ![16384 * yOf c, 0] S16384x1024.size (ownRect_inb c)
abbrev restSet (c : Dev nD) : Finset S32768x1024.Idx := Finset.univ \ (ownRect c).set

theorem mem_own {c : Dev nD} {i : S32768x1024.Idx} : Iff (i ∈ (ownRect c).set) ((i 0).val / 16384 = yOf c) := by
  rw [mem_rows]; omega
theorem mem_rest {c : Dev nD} {i : S32768x1024.Idx} : Iff (i ∈ restSet c) ((i 0).val / 16384 ≠ yOf c) := by
  rw [Finset.mem_sdiff, mem_own]; exact ⟨fun h => h.2, fun h => ⟨Finset.mem_univ _, h⟩⟩

/-- In which order the rows of the other block are filled: the half of the device's own `z` first. -/
def turn (c : Dev nD) (i : S32768x1024.Idx) : ℕ :=
  if (i 0).val % 16384 / 8192 = zOf c then (i 0).val % 8192 else 8192 + (i 0).val % 8192

/-- The rows outside the device's own block, the first `n` in turn in place. -/
def Filled (c : Dev nD) (n : ℕ) : sProp 𝕄 :=
  iprop(∃ f : Buf (Elt F) ((c : Thread nD τ).loc main_v1),
    ⌜∀ i : S32768x1024.Idx, i ∈ restSet c → turn c i < n → f i = gathered m c i⌝ ∗ (((c : Thread nD τ).loc main_v1) ↦[restSet c]{fullShare} f))

/-! ## The widening pass -/

/-- The tile at row `lo` of the landing buffer `rM`, whose contents are `f`, is what the result wants at its rows
    `row … row + 1023`; these are outside the device's own block, and the `n`-th to `n + 1023`-th in turn. -/
def TileFits (c : Dev nD) (lo row n : ℕ) (rM : Memref sig .tc .vmem S8192x1024 .bf16) (f : Buf (Elt F) (rM.view.loc (c : Thread nD τ))) : Prop :=
  (∀ (inb : ∀ a, (![row, 0] : Fin 2 → ℕ) a + S1024x1024.size a ≤ S32768x1024.size a)
      (inb' : ∀ a, (![lo, 0] : Fin 2 → ℕ) a + S1024x1024.size a ≤ S8192x1024.size a) (x : S1024x1024.Idx),
    wid (rM.view.readAt (Elt F) (Rect.unit (s := S8192x1024) ![lo, 0] S1024x1024.size inb').toLoadRect f x)
      = gathered m c ((Rect.unit (s := S32768x1024) ![row, 0] S1024x1024.size inb).emb x))
  ∧ (∀ i : S32768x1024.Idx, row ≤ (i 0).val → (i 0).val < row + 1024 → (i 0).val / 16384 ≠ yOf c)
  ∧ ∀ i : S32768x1024.Idx, (i 0).val / 16384 ≠ yOf c → turn c i < n + 1024 → ¬ (row ≤ (i 0).val ∧ (i 0).val < row + 1024) → turn c i < n

/-- The widening pass after `n` rows, reading share `q` of the landing buffer `rM`, the last `p` payments outstanding. -/
def Widening (c : Dev nD) (rM : Memref sig .tc .vmem S8192x1024 .bf16) (q : PosShare TreeShare) (f : Buf (Elt F) (rM.view.loc (c : Thread nD τ)))
    (p n : ℕ) : sProp 𝕄 :=
  iprop(levAts L lv ∗ (rM.view.loc (c : Thread nD τ) ↦{q} f) ∗ Tile c ∗ Filled m c n ∗ semVal ((c : Thread nD τ), .dma outS) 0 ∗ ow c p)

set_option maxHeartbeats 800000 in
/-- One tile of the widening pass, from either landing buffer: rows `lo … lo + 1023` of it loaded, widened and copied out
    to the result's rows `row … row + 1023`, which are the `n`-th to `n + 1023`-th in turn. -/
theorem widen_tile (c : Dev nD) (lo row n p : ℕ) (hp : ∀ j < p, smLv (.dma outS) < klv (payKind j)) {off : Fin 2 → ℕ} (hoff : off = ![row, 0])
    {inb : ∀ a, off a + S1024x1024.size a ≤ S32768x1024.size a} {inb' : ∀ a, (![lo, 0] : Fin 2 → ℕ) a + S1024x1024.size a ≤ S8192x1024.size a}
    {pay : Vec F S1024x1024 .bf16 → FVec F S1024x1024 .f32} (hpay : ∀ v i, pay v i = wid (v i))
    (rM : Memref sig .tc .vmem S8192x1024 .bf16) (q : PosShare TreeShare) (f : Buf (Elt F) (rM.view.loc (c : Thread nD τ)))
    (hfit : TileFits m c lo row n rM f)
    {h₁ h₂ h₃ h₄ h₅ h₆ h₇ h₈ h₉ h₁₀ h₁₁}
    {k : PUnit → Prog (TpuEff nD τ sig (Elt F) Λ₀ .tc) PUnit} {Q : PUnit → sProp 𝕄} :
    Widening m c rM q f p n
      ⊢ iprop((Widening m c rM q f p (n + 1024)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load rM (Rect.unit (s := S8192x1024) ![lo, 0] S1024x1024.size inb').toLoadRect h₁) fun v =>
             .op (.load tM tileRect.toLoadRect h₂) fun _ =>
             .op (.store tM tileRect (pay v) Finset.univ h₃ h₄) fun _ =>
             .op (.enqueueDma tM (.here (oM.slice (Rect.unit (s := S32768x1024) off S1024x1024.size inb) h₅)) (.dma outS) h₆ h₇ h₈) fun _ =>
             .op (.waitDma2 outS tM (oM.slice (Rect.unit (s := S32768x1024) off S1024x1024.size inb) h₉) h₁₀ h₁₁) k) Q) := by
  subst hoff
  unfold Widening Tile Filled ow
  iintro ⟨#Hlev, Hr, ⟨%ft, Ht⟩, ⟨%fo, %hfo, Ho⟩, Hv, ⟨%W, HO⟩⟩ Hk
  iapply (wp_load 𝒱₀ (c : Thread nD τ) none Set.univ (m := rM) (Finset.subset_univ _)) $$ Hr; iintro Hr
  iapply (wp_load 𝒱₀ (c : Thread nD τ) none Set.univ (m := tM) (Finset.subset_univ _)) $$ Ht; iintro Ht
  iapply (wp_store 𝒱₀ (c : Thread nD τ) none Set.univ (m := tM) (r := tileRect) (Mk := Finset.univ) (Finset.subset_univ _)) $$ Ht; iintro Ht
  rw [write_tile]
  have hsub : (oM.slice (Rect.unit (s := S32768x1024) ![row, 0] S1024x1024.size inb) h₅).view.set ⊆ restSet c := by
    intro i hi
    have hi' : i ∈ (Rect.unit (s := S32768x1024) ![row, 0] S1024x1024.size inb).set := by
      exact (View.set_slice_whole main_v1 (Rect.unit (s := S32768x1024) ![row, 0] S1024x1024.size inb)) ▸ hi
    rw [mem_rows] at hi'
    exact mem_rest.mpr (hfit.2.1 i hi'.1 hi'.2)
  iapply (wp_dmaLocal EC 𝒱₀ (c : Thread nD τ) none (src := tM) (dst := oM.slice (Rect.unit (s := S32768x1024) ![row, 0] S1024x1024.size inb) h₅) (sm := .dma outS)
    (via := ReadAs.same) (q := fullShare) (Sd := restSet c) ()
    ((oM.slice (Rect.unit (s := S32768x1024) ![row, 0] S1024x1024.size inb) h₅).view.dmaCredit) rfl
    (View.dmaCredit_pos _ (show 0 < S1024x1024.numel by decide)) hsub) $$ [Ht Ho Hv]
  · isplitl [Ht]; · rw [show tM.view.set = Finset.univ from View.set_whole _]; iexact Ht
    isplitl [Ho]; · iexact Ho
    iexact Hv
  iintro Hfl
  iapply (wp_waitLocalO EC 𝒱₀ (c : Thread nD τ) none (dstw := oM.slice (Rect.unit (s := S32768x1024) ![row, 0] S1024x1024.size inb) h₉) () rfl (O := owed c p)) $$ [Hfl HO]
  · isplitl [Hfl]; · iexact Hfl
    isplitl [HO]; · iexact HO
    iapply (mayWait c (.dma outS) p hp); iexact Hlev
  iintro ⟨⟨Ho, Ht⟩, Hv, HO⟩
  iapply Hk
  isplitr; · iexact Hlev
  isplitl [Hr]; · iexact Hr
  isplitl [Ht]
  · iexists _; rw [show tM.view.set = Finset.univ from View.set_whole _]; iexact Ht
  isplitl [Ho]
  · iexists _
    isplitr
    rotate_left
    · iexact Ho
    · ipureintro
      intro i hi hturn'
      refine (write_window main_v1 _ fo (gathered m c) _ (fun x => ?_) i).trans ?_
      · refine Eq.trans ?_ (hfit.1 inb inb' x)
        exact (congrFun (View.read_whole (Val := Elt F) cc0_scratch3 _) x).trans (hpay _ x)
      · split
        · rfl
        · rename_i h
          rw [mem_rows] at h
          exact hfo i hi (hfit.2.2 i (mem_rest.mp hi) hturn' h)
  isplitl [Hv]; · iexact Hv
  iexists _; iexact HO

/-- The row of the result at which the tile at row `lo` of each landing buffer goes. -/
abbrev row0 (c : Dev nD) (lo : ℕ) : ℕ := (8192 * zOf c + lo + 16384) - 16384 * yOf c
abbrev row1 (c : Dev nD) (lo : ℕ) : ℕ := (lo + 24576) - (16384 * yOf c + 8192 * zOf c)

/-- The printed offsets of the tiles' slices. -/
theorem off2_at (c : Dev nD) (t : Fin 8) (lo : ℕ) {w : BitVec 32} (hlo : lo = 1024 * t.val) (hw : w = BitVec.ofNat 32 lo) :
    k0_off2 c w = ![8192 * zOf c + lo, 0] := by subst hlo hw; exact k0_off2_eq c t
theorem off3_at (c : Dev nD) (t : Fin 8) (lo : ℕ) {w : BitVec 32} (hlo : lo = 1024 * t.val) (hw : w = BitVec.ofNat 32 lo) :
    k0_off3 c w = ![row0 c lo, 0] := by subst hlo hw; exact k0_off3_eq c t
theorem off4_at (c : Dev nD) (t : Fin 8) (lo : ℕ) {w : BitVec 32} (hlo : lo = 1024 * t.val) (hw : w = BitVec.ofNat 32 lo) :
    k0_off4 c w = ![row1 c lo, 0] := by subst hlo hw; exact k0_off4_eq c t

/-- A tile of a landing buffer, widened, is what the result wants at the tile's rows: from the row the tile goes to one
    reads off which of the three kinds of rows it holds. -/
theorem hop_val (c : Dev nD) (lo row : ℕ) (h : Buf (Elt F) ((c : Thread nD τ).loc cc0_scratch1))
    (hg : ∀ j : S32768x1024.Idx, row ≤ (j 0).val → (j 0).val < row + 1024 → gathered m c j = wid (h (modRows 8192 (by decide) j)))
    (hrow : ∀ x < 1024, (row + x) % 8192 = lo + x) (inb) (inb') (x : S1024x1024.Idx) :
    wid (h ((Rect.unit (s := S8192x1024) ![lo, 0] S1024x1024.size inb').emb x))
      = gathered m c ((Rect.unit (s := S32768x1024) ![row, 0] S1024x1024.size inb).emb x) := by
  have e0 := ValueKit.rect_emb_unit_val (s := S32768x1024) ![row, 0] S1024x1024.size inb x 0
  have e1 := ValueKit.rect_emb_unit_val (s := S32768x1024) ![row, 0] S1024x1024.size inb x 1
  have hx : (x 0).val < 1024 := (x 0).isLt
  generalize (Rect.unit (s := S32768x1024) ![row, 0] S1024x1024.size inb).emb x = j at e0 e1 ⊢
  replace e0 : (j 0).val = row + (x 0).val := e0
  replace e1 : (j 1).val = 0 + (x 1).val := e1
  rw [hg j (by omega) (by omega)]
  refine congrArg (fun i => wid (h i)) (idx_ext ?_ ?_)
  · refine (ValueKit.rect_emb_unit_val (s := S8192x1024) ![lo, 0] S1024x1024.size inb' x 0).trans ?_
    show lo + (x 0).val = (j 0).val % 8192
    rw [e0, hrow _ hx]
  · refine (ValueKit.rect_emb_unit_val (s := S8192x1024) ![lo, 0] S1024x1024.size inb' x 1).trans ?_
    show 0 + (x 1).val = (j 1).val
    omega

/-- The tile at row `lo` of the first landing buffer. -/
theorem fits0 (c : Dev nD) (lo : ℕ) (hlo : lo + 1024 ≤ 8192) (hd : lo % 1024 = 0) : TileFits m c lo (row0 c lo) lo r0M (hop0 m c) := by
  have hz : zOf c < 2 := Nat.mod_lt _ (by decide)
  have hy : yOf c < 2 := Nat.mod_lt _ (by decide)
  have hr : row0 c lo = (8192 * zOf c + lo + 16384) - 16384 * yOf c := rfl
  refine ⟨fun inb inb' x => hop_val m c lo (row0 c lo) (hop0 m c) (fun j h h' => ?_) (fun x hx => ?_) inb inb' x, fun i h h' => ?_, fun i h h' hn => ?_⟩
  · unfold gathered; rw [if_neg (by omega), if_pos (by omega)]
  · omega
  · omega
  · have h32 : (i 0).val < 32768 := (i 0).isLt
    unfold turn at h' ⊢
    split at h'
    · rename_i e; rw [if_pos e]; omega
    · omega

/-- The tile at row `lo` of the second landing buffer. -/
theorem fits1 (c : Dev nD) (lo : ℕ) (hlo : lo + 1024 ≤ 8192) (hd : lo % 1024 = 0) : TileFits m c lo (row1 c lo) (8192 + lo) r1M (hop1 m c) := by
  have hz : zOf c < 2 := Nat.mod_lt _ (by decide)
  have hy : yOf c < 2 := Nat.mod_lt _ (by decide)
  have hr : row1 c lo = (lo + 24576) - (16384 * yOf c + 8192 * zOf c) := rfl
  refine ⟨fun inb inb' x => hop_val m c lo (row1 c lo) (hop1 m c) (fun j h h' => ?_) (fun x hx => ?_) inb inb' x, fun i h h' => ?_, fun i h h' hn => ?_⟩
  · unfold gathered; rw [if_neg (by omega), if_neg (by omega)]
  · omega
  · omega
  · have h32 : (i 0).val < 32768 := (i 0).isLt
    unfold turn at h' ⊢
    split at h'
    · rename_i e; rw [if_pos e]; omega
    · rename_i e; rw [if_neg e]; omega

/-- Before the pass, and after it. -/
theorem filled_none (c : Dev nD) (f : Buf (Elt F) ((c : Thread nD τ).loc main_v1)) :
    (((c : Thread nD τ).loc main_v1) ↦[restSet c]{fullShare} f) ⊢ (Filled m c 0 : sProp 𝕄) := by
  unfold Filled
  iintro Ho
  iexists f
  isplitr; · ipureintro; exact fun i _ h => absurd h (Nat.not_lt_zero _)
  iexact Ho
theorem filled_all (c : Dev nD) : (Filled m c 16384 : sProp 𝕄) ⊢ (((c : Thread nD τ).loc main_v1) ↦[restSet c]{fullShare} gathered m c) := by
  unfold Filled
  iintro ⟨%f, %hf, Ho⟩
  have e : ∀ i ∈ restSet c, f i = gathered m c i := fun i hi => hf i hi (by unfold turn; split <;> omega)
  iapply (Entails.of_eq (pointsTo_congr e)); iexact Ho

end Cert.KernelIdeal.Exchange
-- ==== Proof.BodyIdeal.lean ====
/-
# The body of the kernel, at any device

The protocol's rules at the numbered cells (`pay_signal`, `pay_hop`, `wait_cell`), the copy of the device's own block
(`own_start`, `own_wait`), and then the body once, from what a device starts with to what it ends with.
-/
module

public import proofs.«01_k».proof.Proof.TilesIdeal

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## What a device holds -/

/-- Every cell's invariant, under the name the launch gave it, and that every cell is at its round. -/
def records (K : Dev nD × Fin 6 → ℕ) : sProp 𝕄 :=
  iprop((bigSep Finset.univ fun p : Dev nD × Fin 6 => cellInv ER (rd m) (K p) (cell p.1 p.2)) ∗ bigSep Finset.univ fun p : Dev nD × Fin 6 => reached ER (cell p.1 p.2) 0)

instance records_persistent (K : Dev nD × Fin 6 → ℕ) : BI.Persistent (records (F := F) m K) := by unfold records; infer_instance

theorem inv_at (K : Dev nD × Fin 6 → ℕ) (c : Dev nD) (k : Fin 6) : records m K ⊢ cellInv ER (rd m) (K (c, k)) (cell c k) := by
  have h : (bigSep Finset.univ fun p : Dev nD × Fin 6 => (cellInv ER (rd m) (K p) (cell p.1 p.2) : sProp 𝕄)) ⊢ cellInv ER (rd m) (K (c, k)) (cell c k) :=
    bigSep_elim (Finset.mem_univ (c, k))
  unfold records; iintro ⟨H, -⟩; iapply h; iexact H
theorem reached_at (K : Dev nD × Fin 6 → ℕ) (c : Dev nD) (k : Fin 6) : records m K ⊢ reached ER (cell c k) 0 := by
  have h : (bigSep Finset.univ fun p : Dev nD × Fin 6 => (reached ER (cell p.1 p.2) 0 : sProp 𝕄)) ⊢ reached ER (cell c k) 0 :=
    bigSep_elim (Finset.mem_univ (c, k))
  unfold records; iintro ⟨-, H⟩; iapply h; iexact H

/-- The duty that the `j`-th payment from the end discharges. -/
def payDuty (j : ℕ) : Bool := decide (j = 0 ∨ j = 4)
/-- The token of that payment, and the one of a send cell's own. -/
def payTok (c : Dev nD) (j : ℕ) : sProp 𝕄 := dutyTok ER (cell (partner j c) (payKind j)) 0 (payDuty j)
def sendTok (c : Dev nD) (k : Fin 6) : sProp 𝕄 := dutyTok ER (cell c k) 0 false

/-- A cell's position before its round. -/
def posAt (c : Dev nD) (k : Fin 6) : sProp 𝕄 := atPos ER (cell c k) 0 ∅ 0
/-- The credit with which a device waits on its cell `k`. -/
def credAt (c : Dev nD) (k : Fin 6) : sProp 𝕄 := cred (tallyAt (cell c k) () (ktotal k))

/-! ## The protocol's rules -/

/-- A signal that is the `j`-th payment from the end. -/
theorem pay_signal (K : Dev nD × Fin 6 → ℕ) (c : Dev nD) (j : ℕ) (hd : payDuty j ∈ kduties (payKind j)) (h1 : kamount (payKind j) = 1) {d : Dev nD} (hp : d = partner j c)
    {s : Sem sig} (hs : csem (payKind j) = .reg s) {k : PUnit → Prog (TpuEff nD τ sig (Elt F) Λ₀ .tc) PUnit} {Q : PUnit → sProp 𝕄} :
    iprop(records m K ∗ ow c (j + 1) ∗ payTok c j ∗ kpay m (partner j c) (payKind j) (payDuty j))
      ⊢ iprop((ow c j -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) s ((1 : ℕ) : ℤ)) k) Q) := by
  subst hp
  unfold ow payTok
  rw [← payload_cell m]
  iintro ⟨#HR, ⟨%W, HO⟩, Ht, Hpay⟩ Hk
  have hcell : cell (partner j c) (payKind j) = ((partner j c : Thread nD τ), SemLoc.reg s) := congrArg (Prod.mk _) hs
  ihave #HI := (inv_at m K (partner j c) (payKind j)) $$ HR
  ihave #Hr := (reached_at m K (partner j c) (payKind j)) $$ HR
  rw [hcell]
  iapply (Rounds.wp_signal 𝒱₀ ER (rd m) (c : Thread nD τ) none (dst := (partner j c : Thread nD τ)) (κ := K (partner j c, payKind j)) (sem := s) (r := 0)
      (d := payDuty j) (k' := 1) (O₀ := owed c (j + 1)) (by rw [← hcell, duties_cell]; exact hd) (by rw [← hcell, amount_cell]; exact h1) () (owed c j)
      (by rw [owed_succ, payTally, h1, hcell])) $$ [HO Ht Hpay]
  · isplitr; · iexact HI
    isplitl [HO]; · iexact HO
    isplitl [Ht]; · iexact Ht
    isplitl [Hpay]; · iexact Hpay
    iexact Hr
  iintro HO
  iapply Hk
  iexists W; iexact HO

/-- A hop that is the `j`-th payment from the end: from `src` of the device, contents `fs`, share `q`, to `dst` of the
    partner. -/
theorem pay_hop (K : Dev nD × Fin 6 → ℕ) (c : Dev nD) (j : ℕ) (ks : Fin 6) (hj : ¬ IsBarrier (payKind j)) (hks : ¬ IsBarrier ks) (hd : payDuty j = false)
    {d : Dev nD} (hp : d = partner j c) {src dst : Memref sig .tc .vmem S8192x1024 .bf16}
    {semS semR : DmaSem sig} (hN : dst.view.amount (.dma semR) = N)
    (hS : csem ks = .dma semS) (hR : csem (payKind j) = .dma semR)
    {q : PosShare TreeShare} {fs : Buf (Elt F) (src.view.loc (c : Thread nD τ))}
    (hpay₁ : (src.view.loc (c : Thread nD τ) ↦[src.view.set]{q} fs) ⊢ (kpay m c ks false : sProp 𝕄))
    (hpay₂ : ∀ fd, (dst.view.loc (partner j c : Thread nD τ) ↦[dst.view.set]{fullShare} (dst.view.write (Elt F) fd (src.view.read (Elt F) fs) Finset.univ))
      ⊢ (kpay m (partner j c) (payKind j) false : sProp 𝕄))
    {hsc : dst.view.ref.isScScratch = false} {hsrc : src.view.WordExact} {hdst : dst.view.WordExact} {hsem}
    {k : PUnit → Prog (TpuEff nD τ sig (Elt F) Λ₀ .tc) PUnit} {Q : PUnit → sProp 𝕄} :
    iprop(records m K ∗ (src.view.loc (c : Thread nD τ) ↦[src.view.set]{q} fs) ∗ (∃ fd, dst.view.loc (partner j c : Thread nD τ) ↦[dst.view.set]{fullShare} fd)
        ∗ ow c (j + 1) ∗ sendTok c ks ∗ payTok c j)
      ⊢ iprop(((credAt c ks ∗ ow c j) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc d : Thread nD τ) dst (.dma semS) hsc) (.dma semR) hsrc hdst hsem) k) Q) := by
  subst hp
  unfold ow payTok sendTok credAt
  rw [show ktotal ks = N from if_neg hks]
  iintro ⟨#HR, Hs, ⟨%fd, Hd⟩, ⟨%W, HO⟩, HtS, HtR⟩ Hk
  have hcS : cell c ks = ((c : Thread nD τ), SemLoc.dma semS) := congrArg (Prod.mk _) hS
  have hcR : cell (partner j c) (payKind j) = ((partner j c : Thread nD τ), SemLoc.dma semR) := congrArg (Prod.mk _) hR
  ihave #HIs := (inv_at m K c ks) $$ HR
  ihave #Hrs := (reached_at m K c ks) $$ HR
  ihave #HIr := (inv_at m K (partner j c) (payKind j)) $$ HR
  ihave #Hrr := (reached_at m K (partner j c) (payKind j)) $$ HR
  have eD : kduties (payKind j) = {false} := if_neg hj
  have eDs : kduties ks = {false} := if_neg hks
  have eA : kamount (payKind j) = N := if_neg hj
  have eAs : kamount ks = N := if_neg hks
  rw [hcR, hcS, hd]
  iapply (Rounds.wp_send_pointsTo 𝒱₀ ER (rd m) (c : Thread nD τ) none (c' := (partner j c : Thread nD τ)) (κ₁ := K (c, ks)) (κ₂ := K (partner j c, payKind j))
      (r₁ := 0) (r₂ := 0) (d₁ := false) (d₂ := false) (fs := fs) (fd := fd) (O₀ := owed c (j + 1))
      (by rw [← hcS, duties_cell, eDs]; exact Finset.mem_singleton_self _) (by rw [← hcR, duties_cell, eD]; exact Finset.mem_singleton_self _)
      () () N hN (by rw [← hcS, amount_cell, eAs]) (by rw [← hcR, amount_cell, eA]) (owed c j) (by rw [owed_succ, payTally, eA, hcR]) (W := W)
      (by rw [← hcS, payload_cell]; exact hpay₁) (by rw [← hcR, payload_cell]; exact hpay₂ fd)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [Hc]; · iexact Hc
  iexists W; iexact HO

/-- All that the round of cell `k` hands over. -/
def Round (c : Dev nD) (k : Fin 6) : sProp 𝕄 :=
  bigSep ((rd (F := F) m).duties (cell c k) 0 \ ∅) (fun d => (rd (F := F) m).payload (cell c k) 0 d)

theorem round_bar (c : Dev nD) : Round m c 0
    = iprop(((∃ f, ((yn c : Thread nD τ).loc cc0_scratch1) ↦{fullShare} f) ∗ reached ER (cell (yn c) 2) 0)
        ∗ (∃ f, ((zn c : Thread nD τ).loc cc0_scratch2) ↦{fullShare} f) ∗ reached ER (cell (zn c) 4) 0) := rest_barrier m c 0 (Or.inl rfl)
theorem round_send0 (c : Dev nD) : Round m c 1 = iprop(((c : Thread nD τ).loc cc0_scratch0) ↦{fullShare} narrowed m c) := rest_hop m c 1 (by decide)
theorem round_recv0 (c : Dev nD) : Round m c 2 = iprop(((c : Thread nD τ).loc cc0_scratch1) ↦{fullShare} hop0 m c) := rest_hop m c 2 (by decide)
theorem round_send1 (c : Dev nD) : Round m c 3 = iprop(((c : Thread nD τ).loc cc0_scratch1) ↦{lent} hop0 m c) := rest_hop m c 3 (by decide)
theorem round_recv1 (c : Dev nD) : Round m c 4 = iprop(((c : Thread nD τ).loc cc0_scratch2) ↦{fullShare} hop1 m c) := rest_hop m c 4 (by decide)

/-- A wait for all of cell `k`'s round: the payloads come with it, and the cell closes. -/
theorem wait_cell (K : Dev nD × Fin 6 → ℕ) (c : Dev nD) (k : Fin 6) (n : ℕ) (hn : ∀ j < n, klv k < klv (payKind j))
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k) (ktotal k) Q)
    {p : PUnit → Prog (TpuEff nD τ sig (Elt F) Λ₀ .tc) PUnit} {Q : PUnit → sProp 𝕄} :
    iprop(records m K ∗ levAts L lv ∗ credAt c k ∗ ow c n ∗ posAt c k)
      ⊢ iprop(((ow c n ∗ semVal (cell c k) 0 ∗ Round m c k)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  unfold ow credAt posAt Round
  iintro ⟨#HR, #Hlev, Hc, ⟨%W, HO⟩, Hat⟩ Hk
  ihave #HI := (inv_at m K c k) $$ HR
  iapply (Rounds.wp_wait_rest_token 𝒱₀ ER (rd m) (c : Thread nD τ) none (κ := K (c, k)) hw (Set.mem_univ _) () (O := owed c n) (W := W)
      (R := 0) (m := 0) (T := ∅) (by rw [Nat.zero_add]; exact (expect_cell m c k).symm)) $$ [Hc HO Hat]
  · isplitr; · iexact HI
    isplitl [Hc]; · iexact Hc
    isplitl [HO]; · iexact HO
    isplitr; · iapply (mayWait c (csem k) n (fun j hj => by rw [smLv_csem]; exact hn j hj)); iexact Hlev
    iexact Hat
  iintro ⟨HO, Hat, -, Hpay⟩
  imod (Rounds.cell_close ER (rd m) (Set.mem_univ (K (c, k))) (fun h => h) (R := 0 + 1) (duties_later m (cell c k))) $$ [Hat] with Hz
  · isplitr; · iexact HI
    iexact Hat
  iapply Hk
  isplitl [HO]; · iexists _; iexact HO
  isplitl [Hz] <;> iassumption

/-- The same for a cell of a hop, waited for by the size of the buffer `dstw`. -/
theorem wait_hop (K : Dev nD × Fin 6 → ℕ) (c : Dev nD) (k : Fin 6) (n : ℕ) (hn : ∀ j < n, klv k < klv (payKind j)) (hk : ¬ IsBarrier k)
    (sem : DmaSem sig) (hs : csem k = .dma sem) (srcw dstw : Memref sig .tc .vmem S8192x1024 .bf16) (hN : dstw.view.dmaCredit = N)
    {hsrc : srcw.view.WordExact} {hdst : dstw.view.WordExact} {p : PUnit → Prog (TpuEff nD τ sig (Elt F) Λ₀ .tc) PUnit} {Q : PUnit → sProp 𝕄} :
    iprop(records m K ∗ levAts L lv ∗ credAt c k ∗ ow c n ∗ posAt c k)
      ⊢ iprop(((ow c n ∗ semVal (cell c k) 0 ∗ Round m c k) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sem srcw dstw hsrc hdst) p) Q) :=
  wait_cell m K c k n hn fun Q => by rw [wpE_waitDma2_eq, hs, hN, show ktotal k = N from if_neg hk]

/-! ## The copy of the own block -/

/-- The device's own block is what its own rows of the result want. -/
theorem own_val (c : Dev nD) (x : S16384x1024.Idx) : xs m c x = gathered m c ((ownRect c).emb x) := by
  have hx : (x 0).val < 16384 := (x 0).isLt
  have e0 := ValueKit.rect_emb_unit_val (s := S32768x1024) ![16384 * yOf c, 0] S16384x1024.size (ownRect_inb c) x 0
  have e1 := ValueKit.rect_emb_unit_val (s := S32768x1024) ![16384 * yOf c, 0] S16384x1024.size (ownRect_inb c) x 1
  generalize hj : (ownRect c).emb x = j
  replace e0 : (j 0).val = 16384 * yOf c + (x 0).val := by rw [← hj]; exact e0
  replace e1 : (j 1).val = 0 + (x 1).val := by rw [← hj]; exact e1
  unfold gathered
  rw [if_pos (by omega)]
  refine congrArg (xs m c) (idx_ext ?_ ?_)
  · show (x 0).val = (j 0).val % 16384
    omega
  · show (x 1).val = (j 1).val
    omega

/-- The copy in flight. -/
def OwnFlight (c : Dev nD) : sProp 𝕄 :=
  Flight EC (c : Thread nD τ) (.dma ownS) () (oM.slice (ownRect c) (fun _ => rfl)).view.dmaCredit
    iprop((((c : Thread nD τ).loc main_v1) ↦[(ownRect c).set]{fullShare} gathered m c) ∗ (((c : Thread nD τ).loc main_arg0) ↦{fullShare.left} xs m c))

/-- The copy of the block into its own rows of the result, begun: it holds those rows and half the block's share. -/
theorem own_start (c : Dev nD) {off : Fin 2 → ℕ} (hoff : off = ![16384 * yOf c, 0])
    {inb : ∀ a, off a + S16384x1024.size a ≤ S32768x1024.size a} (f : Buf (Elt F) ((c : Thread nD τ).loc main_v1)) {h₁ h₂ h₃ h₄}
    {k : PUnit → Prog (TpuEff nD τ sig (Elt F) Λ₀ .tc) PUnit} {Q : PUnit → sProp 𝕄} :
    iprop((((c : Thread nD τ).loc main_arg0) ↦{fullShare.left} xs m c) ∗ (((c : Thread nD τ).loc main_v1) ↦[(ownRect c).set]{fullShare} f)
        ∗ semVal ((c : Thread nD τ), .dma ownS) 0)
      ⊢ iprop((OwnFlight m c -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma xM (.here (oM.slice (Rect.unit (s := S32768x1024) off S16384x1024.size inb) h₁)) (.dma ownS) h₂ h₃ h₄) k) Q) := by
  subst hoff
  iintro ⟨Hx, Ho, Hv⟩ Hk
  iapply (wp_dmaLocal EC 𝒱₀ (c : Thread nD τ) none (src := xM) (dst := oM.slice (ownRect c) (fun _ => rfl)) (sm := .dma ownS)
    (via := ReadAs.same) (q := fullShare.left) (fs := xs m c) (fd := f) (Sd := (ownRect c).set) () ((oM.slice (ownRect c) (fun _ => rfl)).view.dmaCredit) rfl
    (View.dmaCredit_pos _ (show 0 < S16384x1024.numel by decide)) (View.set_slice_whole main_v1 (ownRect c)).le) $$ [Hx Ho Hv]
  · isplitl [Hx]; · rw [show xM.view.set = Finset.univ from View.set_whole _]; iexact Hx
    isplitl [Ho]; · iexact Ho
    iexact Hv
  iintro Hfl
  iapply Hk
  unfold OwnFlight
  rw [show xM.view.set = Finset.univ from View.set_whole _, pointsTo_congr (g := gathered m c) (fun i hi => by
    refine (write_window main_v1 (ownRect c) f (gathered m c) _ (fun x => ?_) i).trans (if_pos hi)
    exact (congrFun (View.read_whole (Val := Elt F) main_arg0 _) x).trans (own_val m c x))]
  iexact Hfl

/-- The wait for it: its rows are as the result wants them. -/
theorem own_wait (c : Dev nD) (n : ℕ) (hn : ∀ j < n, smLv (.dma ownS) < klv (payKind j)) {off : Fin 2 → ℕ} (hoff : off = ![16384 * yOf c, 0])
    {inb : ∀ a, off a + S16384x1024.size a ≤ S32768x1024.size a} {h₁ h₂ h₃}
    {k : PUnit → Prog (TpuEff nD τ sig (Elt F) Λ₀ .tc) PUnit} {Q : PUnit → sProp 𝕄} :
    iprop(levAts L lv ∗ OwnFlight m c ∗ ow c n)
      ⊢ iprop((((((c : Thread nD τ).loc main_v1) ↦[(ownRect c).set]{fullShare} gathered m c) ∗ (((c : Thread nD τ).loc main_arg0) ↦{fullShare.left} xs m c)
              ∗ semVal ((c : Thread nD τ), .dma ownS) 0 ∗ ow c n)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ownS xM (oM.slice (Rect.unit (s := S32768x1024) off S16384x1024.size inb) h₁) h₂ h₃) k) Q) := by
  subst hoff
  unfold ow OwnFlight
  iintro ⟨#Hlev, Hfl, ⟨%W, HO⟩⟩ Hk
  iapply (wp_waitLocalO EC 𝒱₀ (c : Thread nD τ) none (dstw := oM.slice (ownRect c) (fun _ => rfl)) () rfl (O := owed c n)) $$ [Hfl HO]
  · isplitl [Hfl]; · iexact Hfl
    isplitl [HO]; · iexact HO
    iapply (mayWait c (.dma ownS) n hn); iexact Hlev
  iintro ⟨⟨Ho, Hx⟩, Hv, HO⟩
  iapply Hk
  isplitl [Ho]; · iexact Ho
  isplitl [Hx]; · iexact Hx
  isplitl [Hv]; · iexact Hv
  iexists _; iexact HO

/-! ## The body -/

/-- The scratch buffers, whatever they hold. -/
def scratches (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ Tile c ∗ (∃ f, ((c : Thread nD τ).loc cc0_scratch4) ↦{fullShare} f))
/-- The local copies' semaphores, at zero. -/
def localSems (c : Dev nD) : sProp 𝕄 :=
  iprop(semVal ((c : Thread nD τ), .dma inS) 0 ∗ semVal ((c : Thread nD τ), .dma outS) 0 ∗ semVal ((c : Thread nD τ), .dma ownS) 0)
/-- The cells' semaphores, at zero. -/
def cellSems (c : Dev nD) : sProp 𝕄 :=
  iprop(semVal (cell c 0) 0 ∗ semVal (cell c 1) 0 ∗ semVal (cell c 2) 0 ∗ semVal (cell c 3) 0 ∗ semVal (cell c 4) 0 ∗ semVal (cell c 5) 0)
/-- The tokens a device pays with, in program order. -/
def payToks (c : Dev nD) : sProp 𝕄 :=
  iprop(payTok c 5 ∗ payTok c 4 ∗ sendTok c 1 ∗ payTok c 3 ∗ sendTok c 3 ∗ payTok c 2 ∗ payTok c 1 ∗ payTok c 0)
def positions (c : Dev nD) : sProp 𝕄 := iprop(posAt c 0 ∗ posAt c 1 ∗ posAt c 2 ∗ posAt c 3 ∗ posAt c 4 ∗ posAt c 5)
/-- The credit dealt at launch: for the waits on cells that other devices pay. -/
def credits (c : Dev nD) : sProp 𝕄 := iprop(credAt c 0 ∗ credAt c 2 ∗ credAt c 4 ∗ credAt c 5)

/-- The protocol's ghost state a device starts from, and its local semaphores. -/
def ghost (K : Dev nD × Fin 6 → ℕ) (c : Dev nD) : sProp 𝕄 := iprop(records m K ∗ positions c ∗ payToks c ∗ localSems c)

/-- What the body starts from. -/
def bodyPre (K : Dev nD × Fin 6 → ℕ) (c : Dev nD) : sProp 𝕄 :=
  iprop(ghost m K c ∗ levAts L lv ∗ credits c ∗ (((c : Thread nD τ).loc main_arg0) ↦{fullShare} xs m c)
    ∗ (∃ f, ((c : Thread nD τ).loc main_v1) ↦{fullShare} f) ∗ scratches c ∗ ow c 6)
/-- What the body ends with: the block unchanged, the whole array gathered, every semaphore at zero. -/
def done (c : Dev nD) : sProp 𝕄 :=
  iprop((((c : Thread nD τ).loc main_arg0) ↦{fullShare} xs m c) ∗ (((c : Thread nD τ).loc main_v1) ↦{fullShare} gathered m c)
    ∗ localSems c ∗ cellSems c ∗ scratches c)

/-- The first landing buffer handed to the partner across `y`, the second to the one across `z`. -/
theorem hand0 (K : Dev nD × Fin 6 → ℕ) (c : Dev nD) :
    iprop(records m K ∗ ∃ f, ((c : Thread nD τ).loc cc0_scratch1) ↦{fullShare} f) ⊢ (kpay m (partner 5 c) (payKind 5) (payDuty 5) : sProp 𝕄) := by
  show _ ⊢ (kpay m (yn c) 0 false : sProp 𝕄)
  dsimp only [kpay]
  rw [if_neg (by decide), yn_yn]
  iintro ⟨#HR, H⟩
  isplitl [H]; · iexact H
  iapply (reached_at m K c 2); iexact HR
theorem hand1 (K : Dev nD × Fin 6 → ℕ) (c : Dev nD) :
    iprop(records m K ∗ ∃ f, ((c : Thread nD τ).loc cc0_scratch2) ↦{fullShare} f) ⊢ (kpay m (partner 4 c) (payKind 4) (payDuty 4) : sProp 𝕄) := by
  show _ ⊢ (kpay m (zn c) 0 true : sProp 𝕄)
  dsimp only [kpay]
  rw [if_pos rfl, zn_zn]
  iintro ⟨#HR, H⟩
  isplitl [H]; · iexact H
  iapply (reached_at m K c 4); iexact HR

/-- What the first hop writes at the partner across `y` is what that device's first landing buffer shall hold. -/
theorem lands0 (c : Dev nD) (fd : Buf (Elt F) (r0M.view.loc (partner 3 c : Thread nD τ))) :
    (r0M.view.loc (partner 3 c : Thread nD τ) ↦[r0M.view.set]{fullShare} (r0M.view.write (Elt F) fd (sM.view.read (Elt F) (narrowed m c)) Finset.univ))
      ⊢ (kpay m (partner 3 c) (payKind 3) false : sProp 𝕄) := by
  show _ ⊢ iprop(((yn c : Thread nD τ).loc cc0_scratch1) ↦{fullShare} hop0 m (yn c))
  unfold hop0
  rw [yn_yn, show r0M.view.set = Finset.univ from View.set_whole _]
  exact Entails.of_eq (congrArg _ ((View.write_whole_univ (Val := Elt F) cc0_scratch1 fd _).trans (View.read_whole (Val := Elt F) cc0_scratch0 _)))
/-- What the second hop writes at the partner across `z` is what that device's second landing buffer shall hold. -/
theorem lands1 (c : Dev nD) (fd : Buf (Elt F) (r1M.view.loc (partner 2 c : Thread nD τ))) :
    (r1M.view.loc (partner 2 c : Thread nD τ) ↦[r1M.view.set]{fullShare} (r1M.view.write (Elt F) fd (r0M.view.read (Elt F) (hop0 m c)) Finset.univ))
      ⊢ (kpay m (partner 2 c) (payKind 2) false : sProp 𝕄) := by
  show _ ⊢ iprop(((zn c : Thread nD τ).loc cc0_scratch2) ↦{fullShare} hop1 m (zn c))
  unfold hop1
  rw [zn_zn, show r1M.view.set = Finset.univ from View.set_whole _]
  exact Entails.of_eq (congrArg _ ((View.write_whole_univ (Val := Elt F) cc0_scratch2 fd _).trans (View.read_whole (Val := Elt F) cc0_scratch1 _)))

theorem one_word : (1#32 : BitVec 32).toInt = ((1 : ℕ) : ℤ) := by decide
theorem two_word : (2#32 : BitVec 32).toInt = ((2 : ℕ) : ℤ) := by decide

set_option maxHeartbeats 1000000 in
set_option maxRecDepth 65536 in
/-- The body, one rule per synchronization and per tile, in program order. -/
theorem sound_body (K : Dev nD × Fin 6 → ℕ) (c : Dev nD) (Kt : PUnit → sProp 𝕄) :
    iprop(bodyPre m K c ∗ ((done m c ∗ ow c 0) -∗ Kt ⟨⟩)) ⊢ wp frame (wpE (defs₀ (F := F)) 𝒱₀ (c : Thread nD τ) none) Set.univ (bodyAt0 (F := F) t0_0) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  simp only [k0_part1_skel, k0_part2_skel, k0_part3_skel, k0_part4_skel, k0_part5_skel, k0_part6_skel, k0_part7_skel, k0_part8_skel, k0_part9_skel,
    k0_part10_skel, semSignalWord, semWaitWord, Prog.lift, Prog.bind_op, Prog.bind_ret, Prog.pure_eq_ret, wp_deviceId, one_word, two_word]
  unfold bodyPre ghost positions payToks localSems credits scratches
  iintro ⟨⟨⟨#HR, ⟨Hp0, Hp1, Hp2, Hp3, Hp4, Hp5⟩, ⟨Ht5, Ht4, Hs1, Ht3, Hs3, Ht2, Ht1, Ht0⟩, Hin, Hout, Hown⟩, #Hlev, ⟨Hc0, Hc2, Hc4, Hc5⟩, Hx, ⟨%fo, Ho⟩,
    ⟨Hsb, Hr0, Hr1, Htile, Hb4⟩, HO⟩, Hk⟩
  -- the opening barrier
  iapply (pay_signal m K c 5 (by decide) (by decide) (dev1_eq c) rfl) $$ [HO Ht5 Hr0]
  · isplitr; · iexact HR
    isplitl [HO]; · iexact HO
    isplitl [Ht5]; · iexact Ht5
    iapply (hand0 m K c)
    isplitr; · iexact HR
    iexact Hr0
  iintro HO
  iapply (pay_signal m K c 4 (by decide) (by decide) (dev2_eq c) rfl) $$ [HO Ht4 Hr1]
  · isplitr; · iexact HR
    isplitl [HO]; · iexact HO
    isplitl [Ht4]; · iexact Ht4
    iapply (hand1 m K c)
    isplitr; · iexact HR
    iexact Hr1
  iintro HO
  iapply (wait_cell m K c 0 4 (by decide) (wpE_semWait_eq 𝒱₀ (c : Thread nD τ) none Set.univ)) $$ [Hc0 HO Hp0]
  · isplitr; · iexact HR
    isplitr; · iexact Hlev
    isplitl [Hc0]; · iexact Hc0
    isplitl [HO]; · iexact HO
    iexact Hp0
  rw [round_bar]
  iintro ⟨HO, Hz0, ⟨Hr0, -⟩, ⟨Hr1, -⟩⟩
  -- the own block's copy begins
  ihave Hxx := (pointsTo_share (PosShare.mem_left_op_right fullShare)).1 $$ Hx
  icases Hxx with ⟨HxL, HxR⟩
  ihave Hoo := (pointsTo_split_subset (Finset.subset_univ (ownRect c).set)).1 $$ Ho
  icases Hoo with ⟨Hoo, Hor⟩
  iapply (own_start m c (k0_off1_eq c) fo) $$ [HxL Hoo Hown]
  · isplitl [HxL]; · iexact HxL
    isplitl [Hoo] <;> iassumption
  iintro Hfl
  -- the narrowing pass
  ihave HN := (narrowing_start m c 4) $$ [HxR Htile Hsb Hin HO]
  · isplitr; · iexact Hlev
    isplitl [HxR]; · iexact HxR
    isplitl [Htile]; · iexact Htile
    isplitl [Hsb]; · iexact Hsb
    isplitl [Hin] <;> iassumption
  iapply (narrow_tile m c 0 4 (by decide) (off2_at c 0 0 rfl rfl) (pay := k0_pay1) (fun v i => nar_pay v _ _ i)) $$ HN; iintro HN
  iapply (narrow_tile m c 1024 4 (by decide) (off2_at c 1 1024 rfl rfl) (pay := k0_pay2) (fun v i => nar_pay v _ _ i)) $$ HN; iintro HN
  iapply (narrow_tile m c 2048 4 (by decide) (off2_at c 2 2048 rfl rfl) (pay := k0_pay3) (fun v i => nar_pay v _ _ i)) $$ HN; iintro HN
  iapply (narrow_tile m c 3072 4 (by decide) (off2_at c 3 3072 rfl rfl) (pay := k0_pay4) (fun v i => nar_pay v _ _ i)) $$ HN; iintro HN
  iapply (narrow_tile m c 4096 4 (by decide) (off2_at c 4 4096 rfl rfl) (pay := k0_pay5) (fun v i => nar_pay v _ _ i)) $$ HN; iintro HN
  iapply (narrow_tile m c 5120 4 (by decide) (off2_at c 5 5120 rfl rfl) (pay := k0_pay6) (fun v i => nar_pay v _ _ i)) $$ HN; iintro HN
  iapply (narrow_tile m c 6144 4 (by decide) (off2_at c 6 6144 rfl rfl) (pay := k0_pay7) (fun v i => nar_pay v _ _ i)) $$ HN; iintro HN
  iapply (narrow_tile m c 7168 4 (by decide) (off2_at c 7 7168 rfl rfl) (pay := k0_pay8) (fun v i => nar_pay v _ _ i)) $$ HN; iintro HN
  unfold Narrowing XRead
  icases HN with ⟨-, HxR, Htile, Hsb, Hin, HO⟩
  ihave Hsb := (sent_all m c) $$ Hsb
  -- the first hop
  iapply (pay_hop m K c 3 1 (by decide) (by decide) rfl (dev3_eq c) (src := sM) (dst := r0M) (semS := send0S) (semR := recv0S) rfl rfl rfl (fs := narrowed m c) (q := fullShare)
      (by rw [show sM.view.set = Finset.univ from View.set_whole _]; exact BI.Entails.refl _) (lands0 m c)) $$ [Hsb Hr0 HO Hs1 Ht3]
  · isplitr; · iexact HR
    isplitl [Hsb]; · rw [show sM.view.set = Finset.univ from View.set_whole _]; iexact Hsb
    isplitl [Hr0]; · rw [show r0M.view.set = Finset.univ from View.set_whole _]; iexact Hr0
    isplitl [HO]; · iexact HO
    isplitl [Hs1] <;> iassumption
  iintro ⟨Hc1, HO⟩
  iapply (wait_hop m K c 1 3 (by decide) (by decide) send0S rfl r0M sM rfl) $$ [Hc1 HO Hp1]
  · isplitr; · iexact HR
    isplitr; · iexact Hlev
    isplitl [Hc1]; · iexact Hc1
    isplitl [HO]; · iexact HO
    iexact Hp1
  rw [round_send0]
  iintro ⟨HO, Hz1, Hsb⟩
  iapply (wait_hop m K c 2 3 (by decide) (by decide) recv0S rfl sM r0M rfl) $$ [Hc2 HO Hp2]
  · isplitr; · iexact HR
    isplitr; · iexact Hlev
    isplitl [Hc2]; · iexact Hc2
    isplitl [HO]; · iexact HO
    iexact Hp2
  rw [round_recv0]
  iintro ⟨HO, Hz2, Hr0⟩
  -- the second hop begins, on half the first landing buffer's share
  ihave Hrr := (pointsTo_share (PosShare.mem_left_op_right fullShare)).1 $$ Hr0
  icases Hrr with ⟨HrL, HrR⟩
  iapply (pay_hop m K c 2 3 (by decide) (by decide) rfl (dev4_eq c) (src := r0M) (dst := r1M) (semS := send1S) (semR := recv1S) rfl rfl rfl (fs := hop0 m c) (q := lent)
      (by rw [show r0M.view.set = Finset.univ from View.set_whole _]; exact BI.Entails.refl _) (lands1 m c)) $$ [HrL Hr1 HO Hs3 Ht2]
  · isplitr; · iexact HR
    isplitl [HrL]; · rw [show r0M.view.set = Finset.univ from View.set_whole _]; iexact HrL
    isplitl [Hr1]; · rw [show r1M.view.set = Finset.univ from View.set_whole _]; iexact Hr1
    isplitl [HO]; · iexact HO
    isplitl [Hs3] <;> iassumption
  iintro ⟨Hc3, HO⟩
  -- the first hop's half widened
  ihave Hor := (filled_none m c fo) $$ Hor
  ihave HW : Widening m c r0M kept (hop0 m c) 2 0 $$ [HrR Htile Hor Hout HO]
  · unfold Widening
    isplitr; · iexact Hlev
    isplitl [HrR]; · iexact HrR
    isplitl [Htile]; · iexact Htile
    isplitl [Hor]; · iexact Hor
    isplitl [Hout] <;> iassumption
  iapply (widen_tile m c 0 _ 0 2 (by decide) (off3_at c 0 0 rfl rfl) (pay := k0_pay9) (fun v i => wid_pay v _ _ i) r0M kept (hop0 m c) (fits0 m c 0 (by decide) rfl)) $$ HW; iintro HW
  iapply (widen_tile m c 1024 _ 1024 2 (by decide) (off3_at c 1 1024 rfl rfl) (pay := k0_pay10) (fun v i => wid_pay v _ _ i) r0M kept (hop0 m c) (fits0 m c 1024 (by decide) rfl)) $$ HW; iintro HW
  iapply (widen_tile m c 2048 _ 2048 2 (by decide) (off3_at c 2 2048 rfl rfl) (pay := k0_pay11) (fun v i => wid_pay v _ _ i) r0M kept (hop0 m c) (fits0 m c 2048 (by decide) rfl)) $$ HW; iintro HW
  iapply (widen_tile m c 3072 _ 3072 2 (by decide) (off3_at c 3 3072 rfl rfl) (pay := k0_pay12) (fun v i => wid_pay v _ _ i) r0M kept (hop0 m c) (fits0 m c 3072 (by decide) rfl)) $$ HW; iintro HW
  iapply (widen_tile m c 4096 _ 4096 2 (by decide) (off3_at c 4 4096 rfl rfl) (pay := k0_pay13) (fun v i => wid_pay v _ _ i) r0M kept (hop0 m c) (fits0 m c 4096 (by decide) rfl)) $$ HW; iintro HW
  iapply (widen_tile m c 5120 _ 5120 2 (by decide) (off3_at c 5 5120 rfl rfl) (pay := (fun v => k0_pay15 (k0_pay14 v))) (fun v i => wid_pay v _ _ i) r0M kept (hop0 m c) (fits0 m c 5120 (by decide) rfl)) $$ HW; iintro HW
  iapply (widen_tile m c 6144 _ 6144 2 (by decide) (off3_at c 6 6144 rfl rfl) (pay := k0_pay16) (fun v i => wid_pay v _ _ i) r0M kept (hop0 m c) (fits0 m c 6144 (by decide) rfl)) $$ HW; iintro HW
  iapply (widen_tile m c 7168 _ 7168 2 (by decide) (off3_at c 7 7168 rfl rfl) (pay := k0_pay17) (fun v i => wid_pay v _ _ i) r0M kept (hop0 m c) (fits0 m c 7168 (by decide) rfl)) $$ HW; iintro HW
  unfold Widening
  icases HW with ⟨-, HrR, Htile, Hor, Hout, HO⟩
  -- the second hop's end
  iapply (wait_hop m K c 3 2 (by decide) (by decide) send1S rfl r1M r0M rfl) $$ [Hc3 HO Hp3]
  · isplitr; · iexact HR
    isplitr; · iexact Hlev
    isplitl [Hc3]; · iexact Hc3
    isplitl [HO]; · iexact HO
    iexact Hp3
  rw [round_send1]
  iintro ⟨HO, Hz3, HrL⟩
  iapply (wait_hop m K c 4 2 (by decide) (by decide) recv1S rfl r0M r1M rfl) $$ [Hc4 HO Hp4]
  · isplitr; · iexact HR
    isplitr; · iexact Hlev
    isplitl [Hc4]; · iexact Hc4
    isplitl [HO]; · iexact HO
    iexact Hp4
  rw [round_recv1]
  iintro ⟨HO, Hz4, Hr1⟩
  -- its half widened
  ihave HW : Widening m c r1M fullShare (hop1 m c) 2 8192 $$ [Hr1 Htile Hor Hout HO]
  · unfold Widening
    isplitr; · iexact Hlev
    isplitl [Hr1]; · iexact Hr1
    isplitl [Htile]; · iexact Htile
    isplitl [Hor]; · iexact Hor
    isplitl [Hout] <;> iassumption
  iapply (widen_tile m c 0 _ 8192 2 (by decide) (off4_at c 0 0 rfl rfl) (pay := k0_pay18) (fun v i => wid_pay v _ _ i) r1M fullShare (hop1 m c) (fits1 m c 0 (by decide) rfl)) $$ HW; iintro HW
  iapply (widen_tile m c 1024 _ 9216 2 (by decide) (off4_at c 1 1024 rfl rfl) (pay := k0_pay19) (fun v i => wid_pay v _ _ i) r1M fullShare (hop1 m c) (fits1 m c 1024 (by decide) rfl)) $$ HW; iintro HW
  iapply (widen_tile m c 2048 _ 10240 2 (by decide) (off4_at c 2 2048 rfl rfl) (pay := k0_pay20) (fun v i => wid_pay v _ _ i) r1M fullShare (hop1 m c) (fits1 m c 2048 (by decide) rfl)) $$ HW; iintro HW
  iapply (widen_tile m c 3072 _ 11264 2 (by decide) (off4_at c 3 3072 rfl rfl) (pay := k0_pay21) (fun v i => wid_pay v _ _ i) r1M fullShare (hop1 m c) (fits1 m c 3072 (by decide) rfl)) $$ HW; iintro HW
  iapply (widen_tile m c 4096 _ 12288 2 (by decide) (off4_at c 4 4096 rfl rfl) (pay := k0_pay22) (fun v i => wid_pay v _ _ i) r1M fullShare (hop1 m c) (fits1 m c 4096 (by decide) rfl)) $$ HW; iintro HW
  iapply (widen_tile m c 5120 _ 13312 2 (by decide) (off4_at c 5 5120 rfl rfl) (pay := k0_pay23) (fun v i => wid_pay v _ _ i) r1M fullShare (hop1 m c) (fits1 m c 5120 (by decide) rfl)) $$ HW; iintro HW
  iapply (widen_tile m c 6144 _ 14336 2 (by decide) (off4_at c 6 6144 rfl rfl) (pay := k0_pay24) (fun v i => wid_pay v _ _ i) r1M fullShare (hop1 m c) (fits1 m c 6144 (by decide) rfl)) $$ HW; iintro HW
  iapply (widen_tile m c 7168 _ 15360 2 (by decide) (off4_at c 7 7168 rfl rfl) (pay := k0_pay25) (fun v i => wid_pay v _ _ i) r1M fullShare (hop1 m c) (fits1 m c 7168 (by decide) rfl)) $$ HW; iintro HW
  unfold Widening
  icases HW with ⟨-, Hr1, Htile, Hor, Hout, HO⟩
  ihave Hor := (filled_all m c) $$ Hor
  -- the own block's copy ends
  iapply (own_wait m c 2 (by decide) (k0_off1_eq c)) $$ [Hfl HO]
  · isplitr; · iexact Hlev
    isplitl [Hfl] <;> iassumption
  iintro ⟨Hoo, HxL, Hown, HO⟩
  -- the closing barrier
  iapply (pay_signal m K c 1 (by decide) (by decide) (dev5_eq c) rfl) $$ [HO Ht1]
  · isplitr; · iexact HR
    isplitl [HO]; · iexact HO
    isplitl [Ht1]; · iexact Ht1
    rw [show kpay m (partner 1 c) (payKind 1) (payDuty 1) = iprop(emp) from rfl]; iempintro
  iintro HO
  iapply (pay_signal m K c 0 (by decide) (by decide) (dev6_eq c) rfl) $$ [HO Ht0]
  · isplitr; · iexact HR
    isplitl [HO]; · iexact HO
    isplitl [Ht0]; · iexact Ht0
    rw [show kpay m (partner 0 c) (payKind 0) (payDuty 0) = iprop(emp) from rfl]; iempintro
  iintro HO
  iapply (wait_cell m K c 5 0 (by decide) (wpE_semWait_eq 𝒱₀ (c : Thread nD τ) none Set.univ)) $$ [Hc5 HO Hp5]
  · isplitr; · iexact HR
    isplitr; · iexact Hlev
    isplitl [Hc5]; · iexact Hc5
    isplitl [HO]; · iexact HO
    iexact Hp5
  iintro ⟨HO, Hz5, -⟩
  rw [wp_ret]; imodintro
  iapply Hk
  isplitr [HO]
  · unfold done localSems cellSems scratches
    isplitl [HxL HxR]
    · iapply (pointsTo_share (PosShare.mem_left_op_right fullShare)).2; isplitl [HxL] <;> iassumption
    isplitl [Hoo Hor]
    · iapply (pointsTo_split_subset (Finset.subset_univ (ownRect c).set)).2; isplitl [Hoo] <;> iassumption
    isplitl [Hin Hout Hown]
    · isplitl [Hin]; · iexact Hin
      isplitl [Hout] <;> iassumption
    isplitl [Hz0 Hz1 Hz2 Hz3 Hz4 Hz5]
    · isplitl [Hz0]; · iexact Hz0
      isplitl [Hz1]; · iexact Hz1
      isplitl [Hz2]; · iexact Hz2
      isplitl [Hz3]; · iexact Hz3
      isplitl [Hz4] <;> iassumption
    isplitl [Hsb]; · iexists _; iexact Hsb
    isplitl [HrL HrR]
    · iexists (hop0 m c)
      iapply (pointsTo_share (PosShare.mem_left_op_right fullShare)).2; isplitl [HrL] <;> iassumption
    isplitl [Hr1]; · iexists _; iexact Hr1
    isplitl [Htile] <;> iassumption
  iexact HO

end Cert.KernelIdeal.Exchange
-- ==== Proof.LaunchIdeal.lean ====
/-
# The launch: every device's start dealt out, and the whole run

The launch allots the six cells of every device their invariants in one step for all devices, deals each device the
tokens of the payments that device makes (so no token ever changes hands), and hands it the credit for the waits on
cells that others pay. With the body at a symbolic device this yields the run of the whole program (`run_main`): it
ends, each device's argument is unchanged, each result is `gathered`, and every semaphore is back at zero.
-/
module

public import proofs.«01_k».proof.Proof.BodyIdeal
public import Idealize.ShloMosaic.Lib.Pipeline.CollectiveSegs
public import Idealize.ShloMosaic.Lib.Quiescent

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The proof data of the one kernel call -/

/-- What a device's kernel starts from but for its scratch buffers. -/
def start (c : Dev nD) : sProp 𝕄 :=
  iprop((∃ K, ghost m K c) ∗ levAts L lv ∗ credits c ∗ (((c : Thread nD τ).loc main_arg0) ↦{fullShare} xs m c)
    ∗ (∃ f, ((c : Thread nD τ).loc main_v1) ↦{fullShare} f))

/-- No window, one point: `start` before it, `done` after it. -/
def dats (_ : Fin 1) (c : Dev nD) : Dat τ (Elt F) Unit ℕ UU ℕ cfg0 c where
  A w := Fin.elim0 w
  after w _ := Fin.elim0 w
  Φ t := match t with
    | ⟨0, _⟩ => iprop(start m c ∗ scratches c)
    | ⟨_ + 1, _⟩ => done m c
  q _ := fullShare
  owed t := match t with
    | ⟨0, _⟩ => O₀ c
    | ⟨_ + 1, _⟩ => 0

set_option maxRecDepth 65536 in
/-- The body meets the obligation that the call puts on it. -/
theorem body_obligation (c : Dev nD) : BodyObligation (dats (F := F) m 0 c) (defs₀ (F := F)) 𝒱₀ () Set.univ := fun t => by
  rw [fin_N0 t]
  rw [show (Finset.univ : Finset (Fin cfg0.W)) = ∅ from rfl, bigSep_empty, bigSep_empty]
  show iprop((start m c ∗ scratches c) ∗ (dats m 0 c).owesAt () t0_0.castSucc ∗ emp)
    ⊢ wp frame (wpE (defs₀ (F := F)) 𝒱₀ (c : Thread nD τ) none) Set.univ (bodyAt0 (F := F) t0_0)
        fun _ => iprop(done m c ∗ (dats m 0 c).owesAt () t0_0.succ ∗ emp)
  unfold start
  iintro ⟨⟨⟨⟨%K, HG⟩, Hlev, Hcr, Hx, Ho⟩, Hsc⟩, HO, -⟩
  iapply (sound_body m K c fun _ => iprop(done m c ∗ (dats m 0 c).owesAt () t0_0.succ ∗ emp))
  unfold Dat.owesAt Pipeline.owesWithin
  icases HO with ⟨%W, -, HO⟩
  isplitr []
  · unfold bodyPre
    isplitl [HG]; · iexact HG
    isplitl [Hlev]; · iexact Hlev
    isplitl [Hcr]; · iexact Hcr
    isplitl [Hx]; · iexact Hx
    isplitl [Ho]; · iexact Ho
    isplitl [Hsc]; · iexact Hsc
    unfold ow; iexists W; iexact HO
  · iintro ⟨HD, HO⟩
    isplitl [HD]; · iexact HD
    isplitl [HO]
    · unfold ow
      icases HO with ⟨%W', HO⟩
      iexists W'
      isplitr; · ipureintro; exact fun _ _ => Or.inl trivial
      iexact HO
    iempintro

/-! ## Semaphores -/

/-- The kernel's own semaphores: the local copies', the hops', the closing barrier's. -/
abbrev osem : Fin 8 → SemLoc sig := fun
  | 0 => .dma inS | 1 => .dma outS | 2 => .dma ownS | 3 => csem 1 | 4 => csem 2 | 5 => csem 3 | 6 => csem 4 | 7 => csem 5

theorem ownSemFacts : Pipeline.OwnSemFacts cfg0.spec osem := by decide

/-- The kernel's own semaphores at zero, listed. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma inS) 0 ∗ semVal ((c : Thread nD τ), .dma outS) 0 ∗ semVal ((c : Thread nD τ), .dma ownS) 0
      ∗ semVal (cell c 1) 0 ∗ semVal (cell c 2) 0 ∗ semVal (cell c 3) 0 ∗ semVal (cell c 4) 0 ∗ semVal (cell c 5) 0) := by
  rw [Pipeline.ownSems0_eq_of_list c osem [0, 1, 2, 3, 4, 5, 6, 7] (by decide) (by decide)]; rfl
/-- The one semaphore that outlives the kernel is the runtime's barrier. -/
theorem unscopedSems0_eq (c : Dev nD) : (unscopedSems0 c : sProp 𝕄) = semVal (cell c 0) 0 := by
  unfold unscopedSems0; rw [bigSep_eq_bigSepL_of_eq [csem 0] (by decide) (by decide)]; rfl

/-- One assertion for each of a device's cells, listed. -/
theorem each_cell (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A device's semaphores at zero are its cells' and its local copies'. -/
theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 6 => semVal (cell c k) 0) ∗ localSems c) : sProp 𝕄) := by
  rw [ownSems0_eq, unscopedSems0_eq, each_cell]; unfold localSems
  iintro ⟨⟨Hi, Ho, Hw, H1, H2, H3, H4, H5⟩, H0⟩
  isplitr [Hi Ho Hw]
  · isplitl [H0]; · iexact H0
    isplitl [H1]; · iexact H1
    isplitl [H2]; · iexact H2
    isplitl [H3]; · iexact H3
    isplitl [H4] <;> iassumption
  · isplitl [Hi]; · iexact Hi
    isplitl [Ho] <;> iassumption
/-- And back. -/
theorem sems_out (c : Dev nD) :
    (iprop(localSems c ∗ cellSems c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]; unfold localSems cellSems
  iintro ⟨⟨Hi, Ho, Hw⟩, H0, H1, H2, H3, H4, H5⟩
  isplitl [H0]; · iexact H0
  isplitl [Hi]; · iexact Hi
  isplitl [Ho]; · iexact Ho
  isplitl [Hw]; · iexact Hw
  isplitl [H1]; · iexact H1
  isplitl [H2]; · iexact H2
  isplitl [H3]; · iexact H3
  isplitl [H4] <;> iassumption

/-! ## The cells and tokens that the launch makes -/

abbrev cellAt (p : Dev nD × Fin 6) : GSem nD τ sig := cell p.1 p.2
theorem cellAt_injective : Function.Injective cellAt := fun p p' h => Prod.ext (cell_inj.mp h).1 (cell_inj.mp h).2
def allCells : Finset (GSem nD τ sig) := Finset.univ.map ⟨cellAt, cellAt_injective⟩

/-- A device's eight tokens: its six payments to others, numbered as they are, and its two sends' own. -/
def tokDev (c : Dev nD) (j : Fin 8) : Dev nD := if j.val < 6 then partner j.val c else c
def tokKind (j : Fin 8) : Fin 6 := if j.val < 6 then payKind j.val else if j.val = 6 then 1 else 3
def tokDuty (j : Fin 8) : Bool := if j.val < 6 then payDuty j.val else false
abbrev tokOf (p : Dev nD × Fin 8) : GSem nD τ sig × ℕ × Bool := (cell (tokDev p.1 p.2) (tokKind p.2), 0, tokDuty p.2)

theorem tok_differ : ∀ j j' : Fin 8, tokKind j = tokKind j' → tokDuty j = tokDuty j' → j = j' := by decide
theorem tokDev_tokDev (c : Dev nD) (j : Fin 8) : tokDev (tokDev c j) j = c := by
  unfold tokDev; split
  · exact partner_partner _ c
  · rfl
theorem tokOf_injective : Function.Injective tokOf := by
  rintro ⟨c, j⟩ ⟨c', j'⟩ h
  obtain ⟨hc, h'⟩ := Prod.mk.inj h
  obtain ⟨hd, hk⟩ := cell_inj.mp hc
  obtain rfl : j = j' := tok_differ j j' hk (Prod.mk.inj h').2
  obtain rfl : c = c' := by rw [← tokDev_tokDev c j, hd, tokDev_tokDev]
  rfl

/-- The tokens as minted are those a device pays with. -/
theorem tok_pay (c : Dev nD) (j : Fin 8) (h : j.val < 6) :
    (dutyTok ER (tokOf (c, j)).1 (tokOf (c, j)).2.1 (tokOf (c, j)).2.2 : sProp 𝕄) = payTok c j.val := by
  unfold payTok; simp only [tokOf, tokDev, tokKind, tokDuty, if_pos h]
theorem tok_send (c : Dev nD) (j : Fin 8) (h : ¬ j.val < 6) (k : Fin 6) (hk : tokKind j = k) :
    (dutyTok ER (tokOf (c, j)).1 (tokOf (c, j)).2.1 (tokOf (c, j)).2.2 : sProp 𝕄) = sendTok c k := by
  subst hk; unfold sendTok; simp only [tokOf, tokDev, tokDuty, if_neg h]
theorem toks_listed (c : Dev nD) :
    (bigSep Finset.univ fun j : Fin 8 => (dutyTok ER (tokOf (c, j)).1 (tokOf (c, j)).2.1 (tokOf (c, j)).2.2 : sProp 𝕄)) = payToks c := by
  rw [bigSep_univ_eq_bigSepL [5, 4, 6, 3, 7, 2, 1, 0] (by decide) (by decide)]
  simp only [bigSepL_cons_cons, bigSepL_singleton]
  rw [tok_pay c 5 (by decide), tok_pay c 4 (by decide), tok_send c 6 (by decide) 1 rfl, tok_pay c 3 (by decide), tok_send c 7 (by decide) 3 rfl,
    tok_pay c 2 (by decide), tok_pay c 1 (by decide), tok_pay c 0 (by decide)]
  rfl

def allToks : Finset (GSem nD τ sig × ℕ × Bool) := Finset.univ.map ⟨tokOf, tokOf_injective⟩

/-- The element that the launch starts from: the call's, the exchange's, and an idle counter. -/
def u₀ : UU :=
  (initOf (Pipeline.cells cfgs cellOf_inj) (Pipeline.launchToks cfgs cellOf_inj), (initOf allCells allToks, 1))

/-- What of it goes to device `c`: its cells' states, positions and marks, and its tokens. -/
def dealt (c : Dev nD) : sProp 𝕄 :=
  iprop((bigSep Finset.univ fun k : Fin 6 => roundState ER (rd m) (cell c k) 0)
    ∗ (bigSep Finset.univ fun k : Fin 6 => atPos ER (cell c k) 0 ∅ 0) ∗ (bigSep Finset.univ fun k : Fin 6 => reached ER (cell c k) 0) ∗ payToks c)

/-- The exchange's part of the launch element pays for every device's share. -/
theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Fin 6 => Φ (cell c k) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => toks_listed c
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr] <;> iassumption

/-! ## The global step -/

/-- A device's share once its cells have their invariants. -/
def opened (c : Dev nD) : sProp 𝕄 :=
  iprop((bigSep Finset.univ fun k : Fin 6 => iprop(∃ κ : ℕ, cellInv ER (rd m) κ (cell c k)))
    ∗ (bigSep Finset.univ fun k : Fin 6 => reached ER (cell c k) 0) ∗ positions c ∗ payToks c ∗ localSems c)

/-- Each cell's counter and state make its invariant. -/
theorem open_cells (c : Dev nD) :
    iprop((bigSep Finset.univ fun k : Fin 6 => semVal (cell c k) 0) ∗ bigSep Finset.univ fun k : Fin 6 => roundState ER (rd m) (cell c k) 0)
      ⊢ (|={Set.univ}=> bigSep Finset.univ fun k => iprop(∃ κ : ℕ, cellInv ER (rd m) κ (cell c k)) : sProp 𝕄) := by
  rw [← bigSep_sep']
  exact (bigSep_mono fun k _ => (Rounds.body_intro ER (rd m) (cell c k)).trans inv_alloc).trans (bigSep_fupd _ _)

theorem open_device (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  unfold dealt opened positions posAt
  rw [each_cell (fun k => atPos ER (cell c k) 0 ∅ 0)]
  iintro ⟨Hos, Hus, Hst, Hat, Hr, Htok⟩
  ihave Hv := (sems_in (F := F) c) $$ [Hos Hus]
  · isplitl [Hos] <;> iassumption
  icases Hv with ⟨Hv, Hl⟩
  imod (open_cells m c) $$ [Hv Hst] with Hinv
  · isplitl [Hv] <;> iassumption
  imodintro
  isplitl [Hinv]; · iexact Hinv
  isplitl [Hr]; · iexact Hr
  isplitl [Hat]; · iexact Hat
  isplitl [Htok] <;> iassumption

/-- The invariants of all devices under one assignment of names, known to every device. -/
theorem share_records : (bigSep Finset.univ fun c : Dev nD => opened m c) ⊢ (bigSep Finset.univ fun c : Dev nD => iprop(∃ K, ghost m K c) : sProp 𝕄) := by
  unfold opened
  rw [bigSep_sep', bigSep_sep', ← bigSep_univ_prod (fun p : Dev nD × Fin 6 => iprop(∃ κ : ℕ, cellInv ER (rd m) κ (cell p.1 p.2))),
    ← bigSep_univ_prod (fun p : Dev nD × Fin 6 => (reached ER (cell p.1 p.2) 0 : sProp 𝕄))]
  iintro ⟨HI, #HR, Hrest⟩
  ihave HK := (BI.bigSep_exists_pi Finset.univ (fun (p : Dev nD × Fin 6) (κ : ℕ) => (cellInv ER (rd m) κ (cell p.1 p.2) : sProp 𝕄))) $$ HI
  icases HK with ⟨%K, #HI⟩
  iapply (bigSep_with_persistent (R := records m K) (Φ := fun c => iprop(positions c ∗ payToks c ∗ localSems c)) fun c _ => by
    iintro H; iexists K; unfold ghost; iexact H)
  isplitr
  · unfold records; isplitl; · iexact HI
    iexact HR
  · iexact Hrest

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ fun c : Dev nD => iprop(∃ K, ghost m K c) :=
  ((bigSep_mono fun c _ => open_device m c).trans (bigSep_fupd _ _)).trans (BI.fupd_mono (share_records m))

/-! ## The launch credit -/

/-- What device `d` owes a cell, payment by payment. -/
theorem owed_apply (d : Dev nD) (n : ℕ) (g : GSem nD τ sig) : owed d n g () = ∑ j ∈ Finset.range n, payTally d j g () := by
  unfold owed; rw [Finset.sum_apply, Finsupp.finset_sum_apply]

/-- The `j`-th payments of all devices give cell `k` of `c` its amount once, if they go to cells `k`. -/
theorem paid_once (c : Dev nD) (k : Fin 6) (j : ℕ) : (∑ d : Dev nD, payTally d j (cell c k) ()) = if payKind j = k then kamount k else 0 := by
  have h (d : Dev nD) : payTally d j (cell c k) () = if partner j c = d then (if payKind j = k then kamount k else 0) else 0 := by
    rw [payTally_apply]
    by_cases hk : payKind j = k
    · subst hk
      by_cases hd : partner j c = d
      · subst hd; rw [partner_partner, if_pos rfl, if_pos rfl, if_pos rfl]
      · rw [if_neg hd, if_neg fun e => hd (by rw [(cell_inj.mp e).1, partner_partner])]
    · rw [if_neg hk, ite_self, if_neg fun e => hk (cell_inj.mp e).2.symm]
  rw [Finset.sum_congr rfl fun d _ => h d, Finset.sum_ite_eq, if_pos (Finset.mem_univ _)]

/-- All devices together owe a cell that others pay its whole round. -/
theorem owed_total (c : Dev nD) (k : Fin 6) (hk : k ∈ ({0, 2, 4, 5} : Finset (Fin 6))) : (∑ d : Dev nD, O₀ d (cell c k) ()) = ktotal k := by
  unfold O₀
  rw [Finset.sum_congr rfl fun d _ => owed_apply d 6 (cell c k), Finset.sum_comm, Finset.sum_congr rfl fun j _ => paid_once c k j,
    ← Finset.sum_filter, Finset.sum_const, smul_eq_mul]
  have hn : ((Finset.range 6).filter fun j => payKind j = k).card = if IsBarrier k then 2 else 1 := by revert k; decide
  rw [hn]; unfold kamount ktotal
  split
  · rfl
  · exact Nat.one_mul _

/-- So the launch credit of such a cell is that of its whole round. -/
theorem launch_cell (c : Dev nD) (k : Fin 6) (hk : k ∈ ({0, 2, 4, 5} : Finset (Fin 6))) :
    tallyOn (cell c k) (launchCredit (Pipeline.owing O₀) 0 (cell c k)) = (tallyAt (cell c k) () (ktotal k) : CellTallies nD τ sig Unit) := by
  unfold tallyAt; refine congrArg _ (Finsupp.ext fun u => ?_); cases u
  rw [Pipeline.launchCredit_owing, Finsupp.single_eq_same, owed_total c k hk]

theorem creds (c : Dev nD) : (Pipeline.launchCred O₀ c : sProp 𝕄) ⊢ credits c := by
  unfold Pipeline.launchCred
  refine (bigSep_subset (Finset.subset_univ (({0, 2, 4, 5} : Finset (Fin 6)).image csem))).trans ?_
  rw [bigSep_image_of_injOn csem_injective.injOn, bigSep_congr fun k hk => congrArg cred (launch_cell c k hk),
    bigSep_eq_bigSepL_of_eq [0, 2, 4, 5] (by decide) (by decide)]
  unfold credits credAt
  exact BI.Entails.refl _

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost m K c)
      ⊢ |={Set.univ}=> iprop(start m c ∗ emp) := by
  rw [Pipeline.unscopedRestP_none, unscopedRest0_eq]
  iintro ⟨⟨Hx, Ho⟩, Hlev, Hcr, -, HG⟩
  ihave Hcr := (creds (F := F) c) $$ Hcr
  imodintro
  unfold start
  isplitl
  · isplitl [HG]; · iexact HG
    isplitl [Hlev]; · iexact Hlev
    isplitl [Hcr]; · iexact Hcr
    isplitl [Hx]; · iexact Hx
    iexists _; iexact Ho
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratches c) from rfl, scopedRest0_eq]
  unfold scratches Tile
  iintro ⟨Hs, -, Hr⟩
  isplitl [Hs] <;> iassumption

/-- What a device ends with outside the kernel: the block, the result, the barrier at zero. -/
def after (c : Dev nD) : sProp 𝕄 :=
  iprop((((c : Thread nD τ).loc main_arg0) ↦{fullShare} xs m c) ∗ (((c : Thread nD τ).loc main_v1) ↦{fullShare} gathered m c) ∗ unscopedSems0 c)

theorem leave (c : Dev nD) :
    (dats m 0 c).Φ (Fin.last cfg0.N) ⊢ iprop(after m c ∗ Pipeline.ownSems0 osem c ∗ Pipeline.scopedRest cfg0.spec c) := by
  rw [show (dats m 0 c).Φ (Fin.last cfg0.N) = done m c from rfl, scopedRest0_eq]
  unfold done after scratches Tile
  iintro ⟨Hx, Ho, Hl, Hc, Hsc⟩
  ihave Hs := (sems_out (F := F) c) $$ [Hl Hc]
  · isplitl [Hl] <;> iassumption
  icases Hs with ⟨Hu, Hs⟩
  isplitl [Hx Ho Hu]
  · isplitl [Hx]; · iexact Hx
    isplitl [Ho] <;> iassumption
  isplitl [Hs] <;> iassumption

/-- What a final memory shows of device `c`. -/
def Ends (c : Dev nD) (s : MemSt nD τ sig (Elt F)) : Prop :=
  s.mem ((c : Thread nD τ).loc main_arg0) = xs m c ∧ s.mem ((c : Thread nD τ).loc main_v1) = gathered m c
    ∧ ∀ sm : SemLoc sig, sm.isScoped .tc = false → s.sem ((c : Thread nD τ), sm) = 0

theorem read_end (c : Dev nD) (s' : Phys nD τ sig (Elt F)) :
    iprop(after m c ∗ emp ∗ SI s') ⊢ (|={Set.univ}=> iprop(⌜Ends m c s'.mem⌝ ∗ SI s') : sProp 𝕄) := by
  unfold after
  iintro ⟨⟨Hx, Ho, Hu⟩, -, HSI⟩
  ihave %hx := (SI_pointsTo_agree) $$ [HSI Hx]
  · isplitl [HSI] <;> iassumption
  ihave %ho := (SI_pointsTo_agree) $$ [HSI Ho]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨funext fun i => hx i (Finset.mem_univ i), funext fun i => ho i (Finset.mem_univ i), hu⟩
  · iexact HSI

theorem waits (c : Dev nD) : (levAts L lv : sProp 𝕄) ⊢ Pipeline.cellsWaits cfgs (dats m) () 0 c :=
  Pipeline.cellsWaits_intro cfgs (dats m) () 0 c fun w s t => Fin.elim0 w

/-! ## The run -/

set_option maxRecDepth 8000 in
/-- On the eight devices, for any float values, from any memory with zero counters: every weakly fair execution of the
    whole program ends, and then each device's argument is as it was, its result is `gathered`, and every semaphore
    is at zero. -/
theorem run_main (ρ : Dev nD → PrngReg) :
    θ_run defs (onTc (τ := τ) (main (F := F))) ⟨m, fun _ => 0, ρ⟩ (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 w) (harr := arr_whole0) (hstage := stage_whole0) (hshare := fun _ w => Fin.elim0 w)
    (hdistinct := winFacts0.arr_inj)
    (O₀ := O₀) (howed₀ := fun _ => rfl) (howedN := fun _ => rfl)
    (L := L) (lv := lv) (hL := L_of_ne) (hwaits := waits m)
    (G := dealt m) (G' := fun c => iprop(∃ K, ghost m K c)) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_all m) $$ HX with HG
      imodintro
      isplitl [HP] <;> iassumption)
    (hglob := glob m)
    (hA := fun _ w => Fin.elim0 w) (hpf := fun _ k => k.elim0)
    (X := start m) (Y := after m) (Z := fun _ => iprop(emp))
    (hX := start_intro m ρ) (hin := enter m) (hout := leave m)
    (QY := Ends m) (hY := read_end m)
    (hQ := fun _ h hs => ⟨fun c => (h c).2.2, sem_eq_zero hs fun c => (h c).2.2.2.2⟩)

end Cert.KernelIdeal.Exchange
-- ==== Proof.Value.lean ====
/-
# The value: what every device gathers is the whole argument

With exact operations the narrowing and the widening are both the identity, so what remains is where each row comes
from: row `r` of the whole array is row `r mod 16384` of the block of the devices at `y = r / 16384`, which a device at
another `y` receives in its first hop if the row is in its own `z` half and in its second hop otherwise.
-/
module

public import proofs.«01_k».proof.Defs
public import proofs.«01_k».proof.Proof.LaunchIdeal
public import proofs.«01_k».proof.Proof.Gen.ReferenceIdeal
public import Idealize.ShloMosaic.Lib.StableHlo.Run

@[expose] public section

noncomputable section

namespace Cert.Proof.Value

open Idealize.ShloMosaic Idealize.ShloMosaic.TcCoe Idealize.SL.Sem

/-! ## The kernel's result -/

section Kernel
open Cert.KernelIdeal Cert.KernelIdeal.Gen Cert.KernelIdeal.Exchange

variable (m : (ℓ : Loc nD τ sig) → Buf (Elt Ideal) ℓ) (v : S32768x1024.Idx → Elt Ideal .f32)

/-- Every device's block is its block of the whole array `v`. -/
abbrev Placed : Prop :=
  ∀ c : Dev nD, xs m c = Layout.blockN ⟨2, ![16384, 1024]⟩ ⟨2, ![32768, 1024]⟩ (Layout.meshBlock [2, 2, 2] ![[1], []] c) v

/-- Which block that is along the rows. -/
theorem block_row : ∀ c : Dev nD, Layout.meshLin [2, 2, 2] c.val [1] = yOf c := by decide

/-- A device's block at an index is the whole array at the index that many rows down. -/
theorem xs_at (h : Placed m v) (c : Dev nD) (j : S16384x1024.Idx) (i : S32768x1024.Idx)
    (h0 : (i 0).val = 16384 * yOf c + (j 0).val) (h1 : (i 1).val = (j 1).val) : xs m c j = v i := by
  rw [h c, Layout.blockN_apply]
  refine congrArg v (funext fun a => Fin.ext ?_)
  rw [Layout.TilesN.idx_val]
  fin_cases a
  · show Layout.meshLin [2, 2, 2] c.val [1] * 16384 + (j 0).val = (i 0).val
    rw [block_row]; omega
  · show 0 * 1024 + (j 1).val = (i 1).val
    omega

/-- What a device narrows, widened again, at an index: the whole array at the index in that device's half. -/
theorem narrowed_at (h : Placed m v) (c : Dev nD) (i : S32768x1024.Idx)
    (h0 : (i 0).val / 8192 = 2 * yOf c + zOf c) : wid (F := Ideal) (narrowed m c (modRows 8192 (by decide) i)) = v i :=
  xs_at m v h c _ i
    (by
      show (i 0).val = 16384 * yOf c + (8192 * zOf c + 1 * ((i 0).val % 8192))
      omega)
    (by
      show (i 1).val = 0 + 1 * (i 1).val
      omega)

/-- The value: every device gathers the whole array. -/
theorem gathered_eq (h : Placed m v) (c : Dev nD) : gathered m c = v := by
  funext i
  have hi : (i 0).val < 32768 := (i 0).isLt
  have hy : yOf c < 2 := Nat.mod_lt _ (by decide)
  have hz : zOf c < 2 := Nat.mod_lt _ (by decide)
  unfold gathered
  by_cases h1 : (i 0).val / 16384 = yOf c
  · rw [if_pos h1]
    refine xs_at m v h c _ i ?_ rfl
    show (i 0).val = 16384 * yOf c + (i 0).val % 16384
    omega
  rw [if_neg h1]
  by_cases h2 : (i 0).val % 16384 / 8192 = zOf c
  · rw [if_pos h2]
    refine narrowed_at m v h (yn c) i ?_
    rw [yOf_yn, zOf_yn]; omega
  · rw [if_neg h2]
    refine narrowed_at m v h (yn (zn c)) i ?_
    rw [yOf_yn, zOf_yn, yOf_zn, zOf_zn]; omega

end Kernel

/-! ## The reference -/

section Reference
open Cert.ReferenceIdeal Cert.ReferenceIdeal.Gen

/-- The reference performs no operation: it ends, with every buffer as it was and no semaphore to speak of. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Reference

end Cert.Proof.Value

end
-- ==== Proof.lean ====
/-
# The claims

The three frames are the three runs, of the kernel as printed, of the kernel with exact operations, and of the
reference, each with what it says of the result left out. Nothing was rewritten for the exact reading, so `preserves`
has nothing to show. The value claim joins the exact kernel's run to the reference's by `Value.gathered_eq`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.LaunchIdeal
public import proofs.«01_k».proof.Proof.Value
public import Idealize.ShloMosaic.Adequacy
public import Idealize.ShloMosaic.Init

@[expose] public section

noncomputable section

namespace Cert.Proof

open Idealize.ShloMosaic Idealize.SL.Sem

/-- The kernel as printed runs to an end, its argument unchanged and its semaphores at zero. -/
theorem frame_kernel : Cert.quiescent_Kernel := fun m ρ _ =>
  (θ_run Cert.Kernel.defs _ _).mono (fun _ h => ⟨fun c => (h.1 c).1, h.2⟩) (Cert.Kernel.Exchange.run_main m ρ)

/-- So does the kernel with exact operations. -/
theorem frame_ideal : Cert.quiescent_KernelIdeal := fun m ρ _ =>
  (θ_run Cert.KernelIdeal.defs _ _).mono (fun _ h => ⟨fun c => (h.1 c).1, h.2⟩) (Cert.KernelIdeal.Exchange.run_main m ρ)

/-- So does the reference. -/
theorem frame_reference : Cert.quiescent_ReferenceIdeal := fun m ρ _ => Value.reference_run m ρ

/-- With exact operations every device's result is what the reference returns: the whole argument. -/
theorem value : Cert.algebraic_KernelIdeal_ReferenceIdeal := fun m ρ m' ρ' _ hm =>
  ⟨_, (θ_run Cert.KernelIdeal.defs _ _).mono (fun _ h c => ⟨(h.1 c).2.1.trans (Value.gathered_eq m _ hm c), (h.1 c).1⟩) (Cert.KernelIdeal.Exchange.run_main m ρ),
    (θ_run Cert.ReferenceIdeal.defs _ _).mono (fun _ h => ⟨h.1 0, h.1 0⟩) (Value.reference_run m' ρ')⟩

theorem claim : Cert.Claim :=
  ⟨Cert.Kernel.Gen.facts, Cert.KernelIdeal.Gen.facts, Cert.ReferenceIdeal.Gen.facts, frame_kernel, frame_ideal, frame_reference, trivial, value⟩

end Cert.Proof

end
